-- ==== Defs.lean ====
def Pre_Kernel [hPre_token_in_table : Cert.Pre_token_in_table.Facts] (m : (ℓ : Loc Cert.Kernel.nD Cert.Kernel.τ Cert.Kernel.sig) → Buf (Elt Bits) ℓ) : Prop :=
  ∀ c : Dev Cert.Kernel.nD,
    (Cert.Pre_token_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_token_in_table : Cert.Pre_token_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_token_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_logits_below_infinity [hPre_logits_below_infinity : Cert.Pre_logits_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity [hPre_logits_below_infinity : Cert.Pre_logits_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_token_in_table : Cert.Pre_token_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_token_in_table : Cert.Pre_token_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_below_infinity [hKernelIdeal : Cert.KernelIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_below_infinity [hReferenceIdeal : Cert.ReferenceIdeal.Facts] [hPre_logits_below_infinity : Cert.Pre_logits_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_logits_below_infinity [hKernelIdeal : Cert.KernelIdeal.Facts] [hReferenceIdeal : Cert.ReferenceIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_token_in_table : Cert.Pre_token_in_table.Facts) (hPre_logits_below_infinity : Cert.Pre_logits_below_infinity.Facts),
    quiescent_Kernel (hKernel := hKernel) (hPre_token_in_table := hPre_token_in_table)
    ∧ quiescent_KernelIdeal (hKernelIdeal := hKernelIdeal) (hPre_token_in_table := hPre_token_in_table)
    ∧ quiescent_KernelIdeal_pre_logits_below_infinity (hKernelIdeal := hKernelIdeal) (hPre_logits_below_infinity := hPre_logits_below_infinity)
    ∧ quiescent_ReferenceIdeal (hReferenceIdeal := hReferenceIdeal)
    ∧ quiescent_ReferenceIdeal_pre_logits_below_infinity (hReferenceIdeal := hReferenceIdeal) (hPre_logits_below_infinity := hPre_logits_below_infinity)
    ∧ preserves_Kernel_KernelIdeal
    ∧ algebraic_KernelIdeal_ReferenceIdeal_pre_logits_below_infinity (hKernelIdeal := hKernelIdeal) (hReferenceIdeal := hReferenceIdeal) (hPre_logits_below_infinity := hPre_logits_below_infinity)
-- ==== Pre_logits_below_infinity.lean ====
abbrev S1 : Shape := ⟨1, ![1]⟩
abbrev S1000000x128 : Shape := ⟨2, ![1000000, 128]⟩
abbrev S1000000 : Shape := ⟨1, ![1000000]⟩
abbrev S_ : Shape := ⟨0, ![]⟩
abbrev S1x1 : Shape := ⟨2, ![1, 1]⟩
abbrev S1x128 : Shape := ⟨2, ![1, 128]⟩
abbrev S128x1000000 : Shape := ⟨2, ![128, 1000000]⟩
abbrev S1x1000000 : Shape := ⟨2, ![1, 1000000]⟩

class Facts : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x128_0 : S1.BroadcastsInDim S1x128 (![0] : Fin 1 → Fin S1x128.rank)
  bcast_S_S1x128 : S_.BroadcastsInDim S1x128 (![] : Fin 0 → Fin S1x128.rank)
  transposes_S1000000x128_S128x1000000_1_0 : S1000000x128.Transposes [1, 0] S128x1000000
  bcast_S1000000_S1x1000000_1 : S1000000.BroadcastsInDim S1x1000000 (![1] : Fin 1 → Fin S1x1000000.rank)
  bcast_S_S1x1000000 : S_.BroadcastsInDim S1x1000000 (![] : Fin 0 → Fin S1x1000000.rank)
  gather_S1000000x128_S1x1_S1x128_1_0_n_n_0_1_1128_wf : GatherDims.WF S1000000x128 S1x1 S1x128 [1] [0] [] [0] [] 1 ![1, 128]
  dot_S1x128_S128x1000000_S1x1000000_1_0_0_1_n_n_wf : DotDims.WF S1x128 S128x1000000 S1x1000000 [1] [0] [0] [1] [] []

variable [Facts]

def gather_S1000000x128_S1x1_S1x128_1_0_n_n_0_1_1128 : GatherDims S1000000x128 S1x1 S1x128 where
  offsetDims := [1]
  collapsedSliceDims := [0]
  operandBatchingDims := []
  startIndicesBatchingDims := []
  startIndexMap := [0]
  indexVectorDim := 1
  sliceSizes := ![1, 128]
  wf := gather_S1000000x128_S1x1_S1x128_1_0_n_n_0_1_1128_wf
def dot_S1x128_S128x1000000_S1x1000000_1_0_0_1_n_n : DotDims S1x128 S128x1000000 S1x1000000 where
  lhsContracting := [1]
  rhsContracting := [0]
  lhsNonContracting := [0]
  rhsNonContracting := [1]
  lhsBatch := []
  rhsBatch := []
  wf := dot_S1x128_S128x1000000_S1x1000000_1_0_0_1_n_n_wf
def fn_where {F : FTy → Type} [FloatOps F] (arg0 : IVec S1 1) (arg1 : IVec S1 32) (arg2 : IVec S1 32) : IVec S1 32 :=
  let v0 : IVec S1 32 := select arg0 arg1 arg2
  v0

def fn_take {F : FTy → Type} [FloatOps F] (arg0 : FVec F S1000000x128 .f32) (arg1 : IVec S1 32) : FVec F S1x128 .f32 :=
  let c : IVec S_ 32 := constantI S_ 32 0#32
  let v0 : IVec S1 32 := broadcastInDim S1 ![] bcast_S_S1 c
  let v1 : IVec S1 1 := cmpi .slt arg1 v0
  let c_0 : IVec S_ 32 := constantI S_ 32 1000000#32
  let v2 : IVec S1 32 := broadcastInDim S1 ![] bcast_S_S1 c_0
  let v3 : IVec S1 32 := addi arg1 v2
  let v4 : IVec S1 32 := fn_where (F := F) v1 v3 arg1
  let v5 : IVec S1x1 32 := broadcastInDim S1x1 ![0] bcast_S1_S1x1_0 v4
  let c_1 : IVec S1 32 := constantI S1 32 999999#32
  let c_2 : IVec S_ 32 := constantI S_ 32 0#32
  let v6 : IVec S1x1 32 := broadcastInDim S1x1 ![] bcast_S_S1x1 c_2
  let v7 : IVec S1x1 1 := cmpi .sge v5 v6
  let v8 : IVec S1x1 32 := broadcastInDim S1x1 ![1] bcast_S1_S1x1_1 c_1
  let v9 : IVec S1x1 1 := cmpi .sle v5 v8
  let v10 : IVec S1x1 1 := andi v7 v9
  let c_3 : IVec S_ 1 := constantI S_ 1 1#1
  let v11 : IVec S1 1 := (fun x v => Host.reduce IntOp.andi x v reducesTo_S1x1_S1_d1 h_S_) v10 c_3
  let v12 : FVec F S1x128 .f32 := (fun x i => Host.gather gather_S1000000x128_S1x1_S1x128_1_0_n_n_0_1_1128 x i) arg0 v5
  let v13 : IVec S1x128 1 := broadcastInDim S1x128 ![0] bcast_S1_S1x128_0 v11
  let cst : FVec F S_ .f32 := constant S_ .f32 0x7FC00000#32
  let v14 : FVec F S1x128 .f32 := broadcastInDim S1x128 ![] bcast_S_S1x128 cst
  let v15 : FVec F S1x128 .f32 := select v13 v12 v14
  v15

def fn {F : FTy → Type} [FloatOps F] (main_arg0 : IVec S1 32) (main_arg1 : FVec F S1000000x128 .f32) (main_arg2 : FVec F S1000000x128 .f32) (main_arg3 : FVec F S1000000 .f32) : IVec S1 1 × IVec S1x1000000 1 :=
  let main_v0 : FVec F S1x128 .f32 := fn_take (F := F) main_arg1 main_arg0
  let main_v1 : FVec F S128x1000000 .f32 := (transpose S128x1000000 [1, 0] · transposes_S1000000x128_S128x1000000_1_0) main_arg2
  let main_v2 : FVec F S1x1000000 .f32 := (fun l r => Host.dotGeneral dot_S1x128_S128x1000000_S1x1000000_1_0_0_1_n_n none l r) main_v0 main_v1
  let main_v3 : FVec F S1x1000000 .f32 := broadcastInDim S1x1000000 ![1] bcast_S1000000_S1x1000000_1 main_arg3
  let main_v4 : FVec F S1x1000000 .f32 := addf main_v2 main_v3
  let main_c : IVec S_ 32 := constantI S_ 32 0#32
  let main_v5 : IVec S1 32 := broadcastInDim S1 ![] bcast_S_S1 main_c
  let main_v6 : IVec S1 1 := cmpi .sge main_arg0 main_v5
  let main_c_0 : IVec S_ 32 := constantI S_ 32 1000000#32
  let main_v7 : IVec S1 32 := broadcastInDim S1 ![] bcast_S_S1 main_c_0
  let main_v8 : IVec S1 1 := cmpi .slt main_arg0 main_v7
  let main_v9 : IVec S1 1 := andi main_v6 main_v8
  let main_cst : FVec F S_ .f32 := constant S_ .f32 0x7F800000#32
  let main_v10 : FVec F S1x1000000 .f32 := broadcastInDim S1x1000000 ![] bcast_S_S1x1000000 main_cst
  let main_v11 : IVec S1x1000000 1 := cmpf .olt main_v4 main_v10
  (main_v9, main_v11)
-- ==== Pre_token_in_table.lean ====
abbrev S1 : Shape := ⟨1, ![1]⟩
abbrev S1000000x128 : Shape := ⟨2, ![1000000, 128]⟩
abbrev S1000000 : Shape := ⟨1, ![1000000]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1000000x128 .f32) (main_arg2 : FVec F S1000000x128 .f32) (main_arg3 : FVec F S1000000 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1000000#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S1 : Shape := ⟨1, ![1]⟩
abbrev S1000000x128 : Shape := ⟨2, ![1000000, 128]⟩
abbrev S1000000 : Shape := ⟨1, ![1000000]⟩
abbrev S1x1000000 : Shape := ⟨2, ![1, 1000000]⟩
abbrev S1x1 : Shape := ⟨2, ![1, 1]⟩
abbrev S8x128 : Shape := ⟨2, ![8, 128]⟩
abbrev S49152x128 : Shape := ⟨2, ![49152, 128]⟩
abbrev S49152 : Shape := ⟨1, ![49152]⟩
abbrev S1x49152 : Shape := ⟨2, ![1, 49152]⟩
abbrev S2 : Shape := ⟨1, ![2]⟩
abbrev S1x128 : Shape := ⟨2, ![1, 128]⟩
abbrev S1x1x49152 : Shape := ⟨3, ![1, 1, 49152]⟩
abbrev S1x1x1 : Shape := ⟨3, ![1, 1, 1]⟩
abbrev S1x131072 : Shape := ⟨2, ![1, 131072]⟩

abbrev nBuf : Space → Nat
  | .hbm => 6
  | .vmem => 11
  | .smem => 4
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000, .f32⟩
  | .hbm, ⟨3, _⟩ => ⟨S1x1000000, .f32⟩
  | .hbm, ⟨4, _⟩ => ⟨S1x1, .f32⟩
  | .hbm, ⟨5, _⟩ => ⟨S1x1000000, .f32⟩
  | .local _ .vmem, ⟨0, _⟩ => ⟨S8x128, .f32⟩
  | .local _ .vmem, ⟨1, _⟩ => ⟨S49152x128, .f32⟩
  | .local _ .vmem, ⟨2, _⟩ => ⟨S49152x128, .f32⟩
  | .local _ .vmem, ⟨3, _⟩ => ⟨S49152, .f32⟩
  | .local _ .vmem, ⟨4, _⟩ => ⟨S49152, .f32⟩
  | .local _ .vmem, ⟨5, _⟩ => ⟨S1x49152, .f32⟩
  | .local _ .vmem, ⟨6, _⟩ => ⟨S1x49152, .f32⟩
  | .local _ .vmem, ⟨7, _⟩ => ⟨S1x131072, .f32⟩
  | .local _ .vmem, ⟨8, _⟩ => ⟨S1x131072, .f32⟩
  | .local _ .vmem, ⟨9, _⟩ => ⟨S1x131072, .f32⟩
  | .local _ .vmem, ⟨10, _⟩ => ⟨S1x131072, .f32⟩
  | .local _ .smem, ⟨0, _⟩ => ⟨S1, .i32⟩
  | .local _ .smem, ⟨1, _⟩ => ⟨S1x1, .f32⟩
  | .local _ .smem, ⟨2, _⟩ => ⟨S2, .f32⟩
  | .local _ .smem, ⟨3, _⟩ => ⟨S1x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_call0_v0_0 : Ref sig .tc := ⟨.hbm, 3, rfl⟩
abbrev main_call0_v0_1 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_stg4_0 : Ref sig .tc := ⟨.smem, 1, rfl⟩
abbrev cc0_scratch0 : Ref sig .tc := ⟨.smem, 2, rfl⟩
abbrev cc1_stg1_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![21], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : Index := Scalar.indexCast v10
  let c0_3 : Index := 0#32
  ![v11.toNat, 0]

def k0_chk1 (v0 : BitVec 32) : Prop :=
  (∀ a, (k0_off1 v0) a + S1x128.size a ≤ S8x128.size a)
theorem k0_off1_inb : ∀ (v0 : BitVec 32) (k0_hw1 : k0_chk1 v0), ∀ a, (k0_off1 v0) a + S1x128.size a ≤ S8x128.size a := fun v0 k0_hw1 => k0_hw1

def k0_cond3 (i : grid0.Coords) : BitVec 1 :=
  let arg0 : BitVec 32 := BitVec.ofNat 32 (i 0).val
  let c20_i32 : BitVec 32 := 20#32
  let v36 : BitVec 1 := Scalar.cmpi .eq arg0 c20_i32
  let v37 : BitVec 32 := Scalar.extui v36
  let c0_i32_15 : BitVec 32 := 0#32
  let v38 : BitVec 1 := Scalar.cmpi .ne v37 c0_i32_15
  v38

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S49152x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S49152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x49152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1x131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1 : Shape := ⟨1, ![1]⟩
abbrev S1000000x128 : Shape := ⟨2, ![1000000, 128]⟩
abbrev S1000000 : Shape := ⟨1, ![1000000]⟩
abbrev S_ : Shape := ⟨0, ![]⟩
abbrev S1x1 : Shape := ⟨2, ![1, 1]⟩
abbrev S1x128 : Shape := ⟨2, ![1, 128]⟩
abbrev S128x1000000 : Shape := ⟨2, ![128, 1000000]⟩
abbrev S1x1000000 : Shape := ⟨2, ![1, 1000000]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S1000000x128, .f32⟩
  | .hbm, ⟨2, _⟩ => ⟨S1000000x128, .f32⟩
  | .hbm, ⟨3, _⟩ => ⟨S1000000, .f32⟩
  | .hbm, ⟨4, _⟩ => ⟨S_, .i32⟩
  | .hbm, ⟨5, _⟩ => ⟨S1, .i32⟩
  | .hbm, ⟨6, _⟩ => ⟨S1, .i1⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S1, .i32⟩
  | .hbm, ⟨11, _⟩ => ⟨S1x1, .i32⟩
  | .hbm, ⟨12, _⟩ => ⟨S1, .i32⟩
  | .hbm, ⟨13, _⟩ => ⟨S_, .i32⟩
  | .hbm, ⟨14, _⟩ => ⟨S1x1, .i32⟩
  | .hbm, ⟨15, _⟩ => ⟨S1x1, .i1⟩
  | .hbm, ⟨16, _⟩ => ⟨S1x1, .i32⟩
  | .hbm, ⟨17, _⟩ => ⟨S1x1, .i1⟩
  | .hbm, ⟨18, _⟩ => ⟨S1x1, .i1⟩
  | .hbm, ⟨19, _⟩ => ⟨S_, .i1⟩
  | .hbm, ⟨20, _⟩ => ⟨S1, .i1⟩
  | .hbm, ⟨21, _⟩ => ⟨S1x128, .f32⟩
  | .hbm, ⟨22, _⟩ => ⟨S1x128, .i1⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S128x1000000, .f32⟩
  | .hbm, ⟨27, _⟩ => ⟨S1x1000000, .f32⟩
  | .hbm, ⟨28, _⟩ => ⟨S1x1000000, .f32⟩
  | .hbm, ⟨29, _⟩ => ⟨S1x1000000, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x1000000, .f32⟩
  | .hbm, ⟨37, _⟩ => ⟨S1x1000000, .f32⟩
  | .hbm, ⟨38, _⟩ => ⟨S1x1000000, .f32⟩
  | .hbm, ⟨39, _⟩ => ⟨S_, .f32⟩
  | .hbm, ⟨40, _⟩ => ⟨S1, .f32⟩
  | .hbm, ⟨41, _⟩ => ⟨S1x1, .f32⟩
  | .hbm, ⟨42, _⟩ => ⟨S1x1, .f32⟩
  | .hbm, ⟨43, _⟩ => ⟨S1x1000000, .f32⟩
  | .hbm, ⟨44, _⟩ => ⟨S1x1000000, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_cst : Ref sig .tc := ⟨.hbm, 30, rfl⟩
abbrev main_call1_v0 : Ref sig .tc := ⟨.hbm, 31, rfl⟩
abbrev main_call1_cst_0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_cst_1 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_v5 : Ref sig .tc := ⟨.hbm, 44, rfl⟩

abbrev nD : Nat := 1
abbrev τ : Topo := Topo.v7x

variable {F : FTy → Type} [FloatOps F]
-- ==== Proof.OwnsRules.lean ====
/-
  Loads and stores of a memref held by `owns`: what is read and what is left, in terms of the contents the
  memref is held at. Used by the two kernels' body runs.
-/
module

public import Idealize.ShloMosaic.Lib.Memref
public import Idealize.ShloMosaic.Lib.Pipeline.Value
public import Idealize.ShloMosaic.Lib.Tactic

@[expose] public section

noncomputable section

namespace Cert.Norm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} [Preorder Lvl] {Λ : Labels} {defs : Defs nD τ sig Val Λ} (𝒱 : Variants) (c : Thread nD τ) (bd : Option 𝒱.V) (E : Set Name)
variable {cs : CoreSpace} {s : Shape} {e : EltTy} {α : Type}
variable {Q : α → sProp (MT nD τ sig Ix Val Name U Lvl)}

/-- A load through a rectangle of a memref held at `X` continues at `X` read through the rectangle. -/
theorem load_owns {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load_rect (defs := defs) 𝒱 c bd E (Q := Q) (m := m) (r := r) (hl := hl) (k := k) (q := q) (f := f) (S := m.view.set) (View.set_slice_subset m.view r)) $$ H
  iintro H
  iapply Hk
  iexists f
  isplitr; · ipureintro; rfl
  iexact H

/-- A word load of a memref held at `X` continues at the element of `X` the rectangle names. -/
theorem word_owns {m : Memref sig c.2.kind .smem s e} {r : Rect s} {h1 : r.shape.numel = 1} {hp : e.packing = 1}
    {k : Val e → Prog (TpuEff nD τ sig Val Λ c.2) α} {q : PosShare TreeShare} {X : s.Idx → Val e} (y : s.Idx)
    (hy : ∀ x : r.shape.Idx, r.emb x = y) :
    (owns c m q X : sProp (MT nD τ sig Ix Val Name U Lvl))
      ⊢ iprop((owns c m q X -∗ wp frame (wpE defs 𝒱 c bd) E (k (X y)) Q)
        -∗ wp frame (wpE defs 𝒱 c bd) E ((smemLoad m r h1 hp).bind k) Q) := by
  have h : (smemLoad m r h1 hp).bind k = .op (.load m r.toLoadRect (View.loadsAt_rect (View.loads_smem_one hp h1)))
      (fun f => k (f (Shape.Idx.first (h1.symm ▸ Nat.one_pos)))) := rfl
  rw [h]
  have h' := load_owns (defs := defs) 𝒱 c bd E (Q := Q) (m := m) (r := r) (q := q) (X := X) (hl := View.loadsAt_rect (View.loads_smem_one hp h1))
    (k := fun f => k (f (Shape.Idx.first (h1.symm ▸ Nat.one_pos))))
  rwa [show View.ld X r (Shape.Idx.first (h1.symm ▸ Nat.one_pos)) = X y from congrArg X (hy _)] at h'

/-- A store through a rectangle of a memref held at `X` leaves contents that are the payload under the rectangle and `X` elsewhere. -/
theorem store_owns {m : Memref sig c.2.kind cs s e} {r : Rect s} {w : r.shape.Idx → Val e} {hx : (m.access r).Stores Finset.univ}
    {hm : Finset.univ = Finset.univ ∨ ∀ a, r.stride a = 1}
    {k : PUnit → Prog (TpuEff nD τ sig Val Λ c.2) α} {X : s.Idx → Val e} (X' : s.Idx → Val e)
    (hin : ∀ x, X' (r.emb x) = w x) (hout : ∀ y, y ∉ r.set → X' y = X y) :
    (owns c m fullShare X : sProp (MT nD τ sig Ix Val Name U Lvl))
      ⊢ iprop((owns c m fullShare X' -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store (defs := defs) 𝒱 c bd E (Q := Q) (m := m) (r := r) (w := w) (hx := hx) (hm := hm) (k := k) (f := f) (S := m.view.set) (View.set_slice_subset m.view r)) $$ H
  iintro H
  iapply Hk
  iexists ((m.access r).write Val f w Finset.univ)
  isplitr; swap; · iexact H
  ipureintro
  funext y
  by_cases hy : y ∈ r.set
  · obtain ⟨x, rfl⟩ := LoadRect.exists_idx_of_mem _ hy
    rw [show X' (r.toLoadRect.idx x) = w x from hin x]
    exact View.read_writes_cons_emb m.view f r w [] x
  · rw [hout y hy]
    exact View.read_writes_cons_miss m.view f ⟨r, w⟩ [] y hy

/-- A load of all of a memref held at `X` continues at `X`. -/
theorem load_full {m : Memref sig c.2.kind cs s e} {off : Fin s.rank → Nat} (h0 : off = fun _ => 0) {inb : ∀ a, off a + s.size a ≤ s.size a}
    {hl : m.view.LoadsAt (Rect.unit off s.size inb).toLoadRect}
    {k : (s.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k X) Q)
        -∗ wp frame (wpE defs 𝒱 c bd) E (.op (.load m (Rect.unit off s.size inb).toLoadRect hl) k) Q) := by
  have h := load_owns (defs := defs) 𝒱 c bd E (Q := Q) (m := m) (r := Rect.unit off s.size inb) (hl := hl) (k := k) (q := q) (X := X)
  rwa [View.ld_unit_zero h0 inb X] at h

/-- An unmasked store over all of a memref leaves its payload. -/
theorem store_full {m : Memref sig c.2.kind cs s e} {off : Fin s.rank → Nat} (h0 : off = fun _ => 0) {inb : ∀ a, off a + s.size a ≤ s.size a}
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} {X : s.Idx → Val e} :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (.op (.store m (Rect.unit off s.size inb) w Finset.univ hx hm) k) Q) :=
  store_owns (defs := defs) 𝒱 c bd E w
    (fun x => congrArg w (by subst h0; exact Rect.emb_whole_apply s x))
    (fun y hy => absurd (View.mem_set_unit_zero h0 inb y) hy)

end Cert.Norm

end
-- ==== Proof.Body.lean ====
/-
  The two kernels' bodies at one grid point, as triples over the staging memrefs.
  `fwd_run` is the projection kernel: it leaves a tile of logits in the output window, updates the running maximum
  and sum in the scratch pair, and at the last point leaves the log-normaliser in the second output.
  `norm_run` is the subtracting kernel.
-/
module

public import proofs.«01_k».proof.Proof.Gen.KernelIdeal.Skeleton
public import proofs.«01_k».proof.Proof.OwnsRules

@[expose] public section

noncomputable section

namespace Cert.KernelIdeal.Norm

open Cert.KernelIdeal Cert.KernelIdeal.Gen Cert.Norm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-! ## Words of the scratch pair -/

/-- The scratch pair's two positions. -/
abbrev pos0 : S2.Idx := fun a => ⟨0, by fin_cases a; decide⟩
abbrev pos1 : S2.Idx := fun a => ⟨1, by fin_cases a; decide⟩
/-- The one position of a one-word table, and of a one-by-one array. -/
abbrev posT : S1.Idx := fun a => ⟨0, by fin_cases a; decide⟩
abbrev posC : S1x1.Idx := fun a => ⟨0, by fin_cases a <;> decide⟩

/-- The pair holding `a` and `b`. -/
def pair (a b : F .f32) : S2.Idx → Elt F .f32 := fun y => if (y 0).val = 0 then a else b

theorem pair_pos0 (a b : F .f32) : pair a b pos0 = a := rfl
theorem pair_pos1 (a b : F .f32) : pair a b pos1 = b := rfl

/-- The row of the staged embedding block that the token index names. -/
def tokRow (x : BitVec 32) (h : k0_chk1 x) (e : S8x128.Idx → Elt F .f32) : Vec F S1x128 .f32 :=
  View.ld e (Rect.unit (s := S8x128) (k0_off1 x) S1x128.size (k0_off1_inb x h))

/-- The scratch pair after a point that finds it at `s`. -/
def scrStep (i : grid0.Coords) (row : Vec F S1x128 .f32) (w : Vec F S49152x128 .f32) (b : Vec F S49152 .f32)
    (s : S2.Idx → Elt F .f32) : S2.Idx → Elt F .f32 :=
  if (i 0).val = 0 then pair (k0_pay6 i row w b) (k0_pay7 i row w b)
  else pair (k0_pay1 (k0_pay6 i row w b) (s pos0)) (k0_pay2 (k0_pay5 i row w b) (k0_pay6 i row w b) (s pos0) (s pos1))

/-- The log-normaliser's window after a point. -/
def cStep (i : grid0.Coords) (s' : S2.Idx → Elt F .f32) (y : S1x1.Idx → Elt F .f32) : S1x1.Idx → Elt F .f32 :=
  if (i 0).val = 20 then fun _ => k0_pay3 (s' pos0) (s' pos1) else y

theorem cond_first (k : Fin 21) : (Scalar.cmpi .ne (Scalar.extui (Scalar.cmpi .eq (BitVec.ofNat 32 k.val) 0#32) : BitVec 32) 0#32 = 1#1) ↔ k.val = 0 := by
  revert k; decide
theorem cond_rest (k : Fin 21) : (Scalar.cmpi .ne (Scalar.extui (Scalar.cmpi .sgt (BitVec.ofNat 32 k.val) 0#32) : BitVec 32) 0#32 = 1#1) ↔ ¬ k.val = 0 := by
  revert k; decide
theorem cond_last (i : grid0.Coords) : (k0_cond3 i = 1#1) ↔ (i 0).val = 20 := by
  have h : ∀ k : Fin 21, (Scalar.cmpi .ne (Scalar.extui (Scalar.cmpi .eq (BitVec.ofNat 32 k.val) 20#32) : BitVec 32) 0#32 = 1#1) ↔ k.val = 20 := by decide
  exact h (i 0)

theorem one_pos0 : ∀ z, (Rect.unit (s := S2) ![0] S1.size inb_S2_S1_0).emb z = pos0 := by decide
theorem one_pos1 : ∀ z, (Rect.unit (s := S2) ![1] S1.size inb_S2_S1_1).emb z = pos1 := by decide
theorem one_posT : ∀ z, (Rect.unit (s := S1) ![0] S1.size inb_S1_S1_0).emb z = posT := by decide
theorem one_posC : ∀ z, (Rect.unit (s := S1x1) ![0, 0] S1x1.size inb_S1x1_S1x1_0_0).emb z = posC := by decide

theorem zero1 : (![0] : Fin 1 → Nat) = fun _ => 0 := by decide
theorem zero2 : (![0, 0] : Fin 2 → Nat) = fun _ => 0 := by decide

section Scratch
variable (c : Dev nD) (E : Set ℕ)

/-- A store into the pair's first word. -/
theorem store_pos0 {α : Type} {Q : α → sProp 𝕄} {m : Memref sig .tc .smem S2 .f32} {a : F .f32}
    {hx : (m.access (Rect.unit (s := S2) ![0] S1.size inb_S2_S1_0)).Stores Finset.univ}
    {hm : Finset.univ = Finset.univ ∨ ∀ a, (Rect.unit (s := S2) ![0] S1.size inb_S2_S1_0).stride a = 1}
    {k : PUnit → Prog (TpuEff nD τ sig (Elt F) Λ₀ .tc) α}
    {s : S2.Idx → Elt F .f32} :
    (owns (c : Thread nD τ) m fullShare s : sProp 𝕄)
      ⊢ iprop((owns (c : Thread nD τ) m fullShare (pair a (s pos1)) -∗ wp frame (wpE (defs₀ (F := F)) Variants.none c none) E (k ⟨⟩) Q)
        -∗ wp frame (wpE (defs₀ (F := F)) Variants.none c none) E
            (Prog.op (.store m (Rect.unit (s := S2) ![0] S1.size inb_S2_S1_0) (fun _ => a) Finset.univ hx hm) k : Prog (TpuEff nD τ sig (Elt F) Λ₀ .tc) α) Q) :=
  store_owns Variants.none (c : Thread nD τ) none E (pair a (s pos1))
    (fun x => by
      show (if _ then _ else _) = _
      rw [if_pos]; have := (x 0).isLt; simp [S1] at this ⊢; omega)
    (fun y hy => by
      have h1 : (y 0).val = 1 := by
        rcases Nat.lt_or_ge (y 0).val 1 with h | h
        · exact absurd (Rect.mem_set_unit.mpr fun a => by fin_cases a; simp [S1]; omega) hy
        · have := (y 0).isLt; simp [S2] at this; omega
      show (if _ then _ else _) = _
      rw [if_neg (by omega)]
      exact congrArg s (funext fun a => Fin.ext (by fin_cases a; exact h1.symm)))

/-- A store into the pair's second word. -/
theorem store_pos1 {α : Type} {Q : α → sProp 𝕄} {m : Memref sig .tc .smem S2 .f32} {b : F .f32}
    {hx : (m.access (Rect.unit (s := S2) ![1] S1.size inb_S2_S1_1)).Stores Finset.univ}
    {hm : Finset.univ = Finset.univ ∨ ∀ a, (Rect.unit (s := S2) ![1] S1.size inb_S2_S1_1).stride a = 1}
    {k : PUnit → Prog (TpuEff nD τ sig (Elt F) Λ₀ .tc) α}
    {s : S2.Idx → Elt F .f32} :
    (owns (c : Thread nD τ) m fullShare s : sProp 𝕄)
      ⊢ iprop((owns (c : Thread nD τ) m fullShare (pair (s pos0) b) -∗ wp frame (wpE (defs₀ (F := F)) Variants.none c none) E (k ⟨⟩) Q)
        -∗ wp frame (wpE (defs₀ (F := F)) Variants.none c none) E
            (Prog.op (.store m (Rect.unit (s := S2) ![1] S1.size inb_S2_S1_1) (fun _ => b) Finset.univ hx hm) k : Prog (TpuEff nD τ sig (Elt F) Λ₀ .tc) α) Q) :=
  store_owns Variants.none (c : Thread nD τ) none E (pair (s pos0) b)
    (fun x => by
      show (if _ then _ else _) = _
      rw [if_neg]; have := (x 0).isLt; simp [S1] at this ⊢)
    (fun y hy => by
      have h1 : (y 0).val = 0 := by
        rcases Nat.lt_or_ge (y 0).val 1 with h | h
        · omega
        · have := (y 0).isLt; simp [S2] at this
          exact absurd (Rect.mem_set_unit.mpr fun a => by fin_cases a; simp [S1]; omega) hy
      show (if _ then _ else _) = _
      rw [if_pos h1]
      exact congrArg s (funext fun a => Fin.ext (by fin_cases a; exact h1.symm)))

end Scratch

/-! ## The projection kernel -/

set_option maxHeartbeats 1000000 in
theorem fwd_run (c : Dev nD) (i : grid0.Coords)
    (m1 : Memref sig .tc .smem S1 .i32) (h1 : m1.IsWhole) (m2 : Memref sig .tc .vmem S8x128 .f32) (h2 : m2.IsWhole)
    (m3 : Memref sig .tc .vmem S49152x128 .f32) (h3 : m3.IsWhole) (m4 : Memref sig .tc .vmem S49152 .f32) (h4 : m4.IsWhole)
    (m5 : Memref sig .tc .vmem S1x49152 .f32) (h5 : m5.IsWhole) (m6 : Memref sig .tc .smem S1x1 .f32) (h6 : m6.IsWhole)
    (m7 : Memref sig .tc .smem S2 .f32) (h7 : m7.IsWhole)
    (x : S1.Idx → Elt F .i32) (e : S8x128.Idx → Elt F .f32) (w : S49152x128.Idx → Elt F .f32) (b : S49152.Idx → Elt F .f32)
    (y5 : S1x49152.Idx → Elt F .f32) (y6 : S1x1.Idx → Elt F .f32) (s : S2.Idx → Elt F .f32)
    (hx : k0_chk1 (x posT)) (E : Set ℕ) (Q : PUnit → sProp 𝕄) :
    iprop(owns (c : Thread nD τ) m1 fullShare x ∗ owns (c : Thread nD τ) m2 fullShare e ∗ owns (c : Thread nD τ) m3 fullShare w
        ∗ owns (c : Thread nD τ) m4 fullShare b ∗ owns (c : Thread nD τ) m5 fullShare y5 ∗ owns (c : Thread nD τ) m6 fullShare y6
        ∗ owns (c : Thread nD τ) m7 fullShare s
        ∗ (iprop(owns (c : Thread nD τ) m1 fullShare x ∗ owns (c : Thread nD τ) m2 fullShare e ∗ owns (c : Thread nD τ) m3 fullShare w
            ∗ owns (c : Thread nD τ) m4 fullShare b ∗ owns (c : Thread nD τ) m5 fullShare (k0_pay4 (tokRow (x posT) hx e) w b)
            ∗ owns (c : Thread nD τ) m6 fullShare (cStep i (scrStep i (tokRow (x posT) hx e) w b s) y6)
            ∗ owns (c : Thread nD τ) m7 fullShare (scrStep i (tokRow (x posT) hx e) w b s)) -∗ Q ⟨⟩))
      ⊢ wp frame (wpE (defs₀ (F := F)) Variants.none c none) E
          (cc0__fwd_kernel i m1 h1 m2 h2 m3 h3 m4 h4 m5 h5 m6 h6 m7 h7) Q := by
  rw [cc0__fwd_kernel_eq_skeleton]; unfold cc0__fwd_kernel_skel
  rw [k0_part1_eq_skeleton]; unfold k0_part1_skel
  simp only [Prog.lift, Prog.bind_op, Prog.bind_ret, Prog.pure_eq_ret, Prog.bind_assoc]
  iintro ⟨H1, H2, H3, H4, H5, H6, H7, Hk⟩
  iapply (word_owns (defs := defs₀ (F := F)) Variants.none (c : Thread nD τ) none E (m := m1) posT one_posT) $$ H1
  iintro H1
  iapply (wp_assume Variants.none (c : Thread nD τ) none E hx)
  iapply (load_owns (defs := defs₀ (F := F)) Variants.none (c : Thread nD τ) none E (m := m2)) $$ H2
  iintro H2
  iapply (load_full (defs := defs₀ (F := F)) Variants.none (c : Thread nD τ) none E (s := S49152x128) (m := m3) zero2) $$ H3
  iintro H3
  iapply (load_full (defs := defs₀ (F := F)) Variants.none (c : Thread nD τ) none E (s := S49152) (m := m4) zero1) $$ H4
  iintro H4
  iapply (load_full (defs := defs₀ (F := F)) Variants.none (c : Thread nD τ) none E (s := S1x49152) (m := m5) zero2) $$ H5
  iintro H5
  iapply (store_full (defs := defs₀ (F := F)) Variants.none (c : Thread nD τ) none E (s := S1x49152) (m := m5) zero2) $$ H5
  iintro H5
  by_cases h0 : (i 0).val = 0
  · have hA := (cond_first (i 0)).2 h0
    have hB := mt (cond_rest (i 0)).1 (not_not.2 h0)
    have hC : ¬ (k0_cond3 i = 1#1) := fun h => by rw [cond_last, h0] at h; exact absurd h (by decide)
    simp only [hA, hB, hC, ↓reduceDIte, Prog.bind_assoc, Prog.bind_op, Prog.bind_ret]
    iapply (word_owns (defs := defs₀ (F := F)) Variants.none (c : Thread nD τ) none E (m := m7) pos0 one_pos0) $$ H7
    iintro H7
    iapply (store_pos0 c E (m := m7)) $$ H7
    iintro H7
    iapply (word_owns (defs := defs₀ (F := F)) Variants.none (c : Thread nD τ) none E (m := m7) pos1 one_pos1) $$ H7
    iintro H7
    iapply (store_pos1 c E (m := m7)) $$ H7
    iintro H7
    rw [show scrStep i (tokRow (x posT) hx e) w b s = pair (k0_pay6 i (tokRow (x posT) hx e) w b) (k0_pay7 i (tokRow (x posT) hx e) w b) from if_pos h0,
      show cStep i (pair (k0_pay6 i (tokRow (x posT) hx e) w b) (k0_pay7 i (tokRow (x posT) hx e) w b)) y6 = y6 from if_neg (by rw [h0]; decide)]
    rw [wp_ret]
    imodintro
    iapply Hk
    isplitl [H1]; · iexact H1
    isplitl [H2]; · iexact H2
    isplitl [H3]; · iexact H3
    isplitl [H4]; · iexact H4
    isplitl [H5]; · iexact H5
    isplitl [H6]; · iexact H6
    iexact H7
  · have hA := mt (cond_first (i 0)).1 h0
    have hB := (cond_rest (i 0)).2 h0
    simp only [hA, hB, ↓reduceDIte, Prog.bind_assoc, Prog.bind_op, Prog.bind_ret]
    iapply (word_owns (defs := defs₀ (F := F)) Variants.none (c : Thread nD τ) none E (m := m7) pos0 one_pos0) $$ H7
    iintro H7
    iapply (word_owns (defs := defs₀ (F := F)) Variants.none (c : Thread nD τ) none E (m := m7) pos1 one_pos1) $$ H7
    iintro H7
    iapply (word_owns (defs := defs₀ (F := F)) Variants.none (c : Thread nD τ) none E (m := m7) pos0 one_pos0) $$ H7
    iintro H7
    iapply (store_pos0 c E (m := m7)) $$ H7
    iintro H7
    iapply (word_owns (defs := defs₀ (F := F)) Variants.none (c : Thread nD τ) none E (m := m7) pos1 one_pos1) $$ H7
    iintro H7
    iapply (store_pos1 c E (m := m7)) $$ H7
    iintro H7
    rw [show scrStep i (tokRow (x posT) hx e) w b s = pair (k0_pay1 (k0_pay6 i (tokRow (x posT) hx e) w b) (s pos0)) (k0_pay2 (k0_pay5 i (tokRow (x posT) hx e) w b) (k0_pay6 i (tokRow (x posT) hx e) w b) (s pos0) (s pos1)) from if_neg h0]
    by_cases hl : (i 0).val = 20
    · have hC := (cond_last i).2 hl
      simp only [hC, ↓reduceDIte]
      iapply (word_owns (defs := defs₀ (F := F)) Variants.none (c : Thread nD τ) none E (m := m7) pos0 one_pos0) $$ H7
      iintro H7
      iapply (word_owns (defs := defs₀ (F := F)) Variants.none (c : Thread nD τ) none E (m := m7) pos1 one_pos1) $$ H7
      iintro H7
      iapply (word_owns (defs := defs₀ (F := F)) Variants.none (c : Thread nD τ) none E (m := m6) posC one_posC) $$ H6
      iintro H6
      iapply (store_full (defs := defs₀ (F := F)) Variants.none (c : Thread nD τ) none E (s := S1x1) (m := m6) zero2) $$ H6
      iintro H6
      rw [show cStep i (pair (k0_pay1 (k0_pay6 i (tokRow (x posT) hx e) w b) (s pos0)) (k0_pay2 (k0_pay5 i (tokRow (x posT) hx e) w b) (k0_pay6 i (tokRow (x posT) hx e) w b) (s pos0) (s pos1))) y6 = _ from if_pos hl]
      rw [wp_ret]
      imodintro
      iapply Hk
      isplitl [H1]; · iexact H1
      isplitl [H2]; · iexact H2
      isplitl [H3]; · iexact H3
      isplitl [H4]; · iexact H4
      isplitl [H5]; · iexact H5
      isplitl [H6]; · iexact H6
      iexact H7
    · have hC := mt (cond_last i).1 hl
      simp only [hC, ↓reduceDIte]
      rw [show cStep i (pair (k0_pay1 (k0_pay6 i (tokRow (x posT) hx e) w b) (s pos0)) (k0_pay2 (k0_pay5 i (tokRow (x posT) hx e) w b) (k0_pay6 i (tokRow (x posT) hx e) w b) (s pos0) (s pos1))) y6 = y6 from if_neg hl]
      rw [wp_ret]
      imodintro
      iapply Hk
      isplitl [H1]; · iexact H1
      isplitl [H2]; · iexact H2
      isplitl [H3]; · iexact H3
      isplitl [H4]; · iexact H4
      isplitl [H5]; · iexact H5
      isplitl [H6]; · iexact H6
      iexact H7

/-! ## The subtracting kernel -/

theorem norm_run (c : Dev nD) (i : grid1.Coords)
    (m1 : Memref sig .tc .vmem S1x131072 .f32) (h1 : m1.IsWhole) (m2 : Memref sig .tc .smem S1x1 .f32) (h2 : m2.IsWhole)
    (m3 : Memref sig .tc .vmem S1x131072 .f32) (h3 : m3.IsWhole)
    (g : S1x131072.Idx → Elt F .f32) (z : S1x1.Idx → Elt F .f32) (y : S1x131072.Idx → Elt F .f32)
    (E : Set ℕ) (Q : PUnit → sProp 𝕄) :
    iprop(owns (c : Thread nD τ) m1 fullShare g ∗ owns (c : Thread nD τ) m2 fullShare z ∗ owns (c : Thread nD τ) m3 fullShare y
        ∗ (iprop(owns (c : Thread nD τ) m1 fullShare g ∗ owns (c : Thread nD τ) m2 fullShare z
            ∗ owns (c : Thread nD τ) m3 fullShare (k1_pay1 g (z posC))) -∗ Q ⟨⟩))
      ⊢ wp frame (wpE (defs₀ (F := F)) Variants.none c none) E (cc1__norm_kernel i m1 h1 m2 h2 m3 h3) Q := by
  rw [cc1__norm_kernel_eq_skeleton]; unfold cc1__norm_kernel_skel
  simp only [Prog.lift, Prog.bind_op, Prog.bind_ret, Prog.pure_eq_ret, Prog.bind_assoc]
  iintro ⟨H1, H2, H3, Hk⟩
  iapply (load_full (defs := defs₀ (F := F)) Variants.none (c : Thread nD τ) none E (s := S1x131072) (m := m1) zero2) $$ H1
  iintro H1
  iapply (word_owns (defs := defs₀ (F := F)) Variants.none (c : Thread nD τ) none E (m := m2) posC one_posC) $$ H2
  iintro H2
  iapply (load_full (defs := defs₀ (F := F)) Variants.none (c : Thread nD τ) none E (s := S1x131072) (m := m3) zero2) $$ H3
  iintro H3
  iapply (store_full (defs := defs₀ (F := F)) Variants.none (c : Thread nD τ) none E (s := S1x131072) (m := m3) zero2) $$ H3
  iintro H3
  rw [wp_ret]
  imodintro
  iapply Hk
  isplitl [H1]; · iexact H1
  isplitl [H2]; · iexact H2
  iexact H3

end Cert.KernelIdeal.Norm

end
-- ==== Proof.Region0.lean ====
/-
  The projection pallas_call: its proof data and its body obligation.
  What a point leaves is stated by three predicates — `P` of the scratch pair between points, `R3` of the tile of
  logits, `RC` of the log-normaliser — so that one development serves both the frames (the predicates hold of
  everything) and the values (the predicates name the contents).
-/
module

public import proofs.«01_k».proof.Proof.Gen.KernelIdeal.Launch
public import proofs.«01_k».proof.Proof.Body
public import Idealize.ShloMosaic.Lib.Pipeline.DatRel
public import Idealize.ShloMosaic.Lib.Pipeline.FrameBody
public import Idealize.ShloMosaic.Lib.Pipeline.RegionArraysT

@[expose] public section

noncomputable section

namespace Cert.KernelIdeal.Norm

open Cert.KernelIdeal Cert.KernelIdeal.Gen Cert.Norm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]
variable {U : Type} [URA U]

local notation "𝕄" => MT nD τ sig Unit (Elt F) ℕ U ℕ

/-! ## The blocks -/

variable (a0 : (pcfg0 (F := F)).Adm) (V : Valuation τ sig (Elt F))

/-- The token index table. -/
abbrev tbl : S1.Idx → Elt F .i32 := a0.1 0

/-- What window `w` holds after the fetch at point `t`, on a staging buffer that held `d`. -/
def blk0 (w : Fin 5) (t : Fin (cfg0 a0).N) (d : ((cfg0 a0).win w).block.Idx → Elt F ((cfg0 a0).win w).elt) :
    ((cfg0 a0).win w).block.Idx → Elt F ((cfg0 a0).win w).elt :=
  ((cfg0 a0).win w).fill ((cfg0 a0).grid.coords t) d (((cfg0 a0).win w).blk t |>.view.read (Elt F) (V (Proc.devRef .tc (Pipeline.arrRef spec0 w))))

/-- Any contents of a staging buffer. -/
def anyOf (w : Fin 5) : ((cfg0 a0).win w).block.Idx → Elt F ((cfg0 a0).win w).elt := fun _ => Classical.arbitrary _

/-- The staged embedding block, weight block and bias block. -/
abbrev embB (t : Fin (cfg0 a0).N) : S8x128.Idx → Elt F .f32 := blk0 a0 V 0 t (anyOf a0 0)
abbrev wB (t : Fin (cfg0 a0).N) (d : S49152x128.Idx → Elt F .f32) : S49152x128.Idx → Elt F .f32 := blk0 a0 V 1 t d
abbrev bB (t : Fin (cfg0 a0).N) (d : S49152.Idx → Elt F .f32) : S49152.Idx → Elt F .f32 := blk0 a0 V 2 t d

/-- The three predicates agree with what the body computes. -/
structure Spec (hx : k0_chk1 (tbl a0 posT)) (P : ℕ → (S2.Idx → Elt F .f32) → Prop)
    (R3 : Fin (cfg0 a0).N → (S1x49152.Idx → Elt F .f32) → Prop) (RC : (S1x1.Idx → Elt F .f32) → Prop) : Prop where
  init : ∀ s, P 0 s
  step : ∀ (t : Fin (cfg0 a0).N) s d1 d2, P t.val s →
    P (t.val + 1) (scrStep (grid0.coords t) (tokRow (tbl a0 posT) hx (embB a0 V t)) (wB a0 V t d1) (bB a0 V t d2) s)
  tile : ∀ t d1 d2, R3 t (k0_pay4 (tokRow (tbl a0 posT) hx (embB a0 V t)) (wB a0 V t d1) (bB a0 V t d2))
  last : ∀ s, P 21 s → RC (fun _ => k0_pay3 (s pos0) (s pos1))

/-! ## The proof data -/

variable (P : ℕ → (S2.Idx → Elt F .f32) → Prop)
    (R3 : Fin (cfg0 a0).N → (S1x49152.Idx → Elt F .f32) → Prop) (RC : (S1x1.Idx → Elt F .f32) → Prop)

/-- The scoped buffers that the projection call does not use. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg1_0), ((c : Thread nD τ).loc cc1_stg1_0) ↦{fullShare} f))

/-- The invariant between points: the scratch pair at contents meeting `P`, the table, the unused buffers. -/
def inv0 (c : Dev nD) (t : ℕ) : sProp 𝕄 :=
  iprop((∃ s, ⌜P t s⌝ ∗ owns (c : Thread nD τ) (Memref.whole cc0_scratch0) fullShare s)
    ∗ owns (c : Thread nD τ) (Memref.whole main_arg0) fullShare (tbl a0) ∗ rest0 c)

def dat0 (c : Dev nD) : Dat τ (Elt F) Unit ℕ U ℕ (cfg0 a0) c where
  A w := V (Proc.devRef .tc (Pipeline.arrRef spec0 w))
  after w t := blk0 a0 V w t (anyOf a0 w)
  Φ t := inv0 a0 P c t.val
  q _ := fullShare
  owed _ := 0

/-- The windows whose contents are held to a predicate: the two outputs. -/
def fgt0 : Fin 5 → Bool := fun | 3 => true | 4 => true | _ => false

def Rl0 : (w : Fin 5) → Fin (cfg0 a0).N → (((cfg0 a0).win w).block.Idx → Elt F ((cfg0 a0).win w).elt) → Prop
  | 3, t, X => R3 t X
  | 4, t, X => t.val = 20 → RC X
  | _, _, _ => True

abbrev rdat0 (c : Dev nD) : RDat τ (Elt F) Unit ℕ U ℕ (cfg0 a0) c := (dat0 a0 V P c).toRRel fgt0 (Rl0 a0 R3 RC)

theorem fetched0 (c : Dev nD) (w : Fin 5) (t : Fin (cfg0 a0).N) (d) : (dat0 (U := U) a0 V P c).fetched w t d = blk0 a0 V w t d := rfl

theorem blockOf0_keep (c : Dev nD) (w : Fin 5) (t : Fin (cfg0 a0).N) :
    ((cfg0 a0).win w).cut ((cfg0 a0).grid.coords t) ((dat0 (U := U) a0 V P c).after w t) = (dat0 (U := U) a0 V P c).blockOf w t :=
  (dat0 (U := U) a0 V P c).cut_fetched w t (anyOf a0 w)

/-- What the body leaves of an input block, on a staging buffer that held `d`. -/
theorem keep0 (c : Dev nD) (w : Fin 5) (t : Fin (cfg0 a0).N) (d) :
    ((cfg0 a0).win w).fill ((cfg0 a0).grid.coords t) d (((cfg0 a0).win w).cut ((cfg0 a0).grid.coords t) ((dat0 (U := U) a0 V P c).after w t))
      = blk0 a0 V w t d := by
  rw [blockOf0_keep]; rfl

theorem cStep_last {i : grid0.Coords} (hi : (i 0).val = 20) {s : S2.Idx → Elt F .f32} (y : S1x1.Idx → Elt F .f32)
    (h : RC (fun _ => k0_pay3 (s pos0) (s pos1))) : RC (cStep i s y) := by
  unfold cStep; rw [if_pos hi]; exact h

theorem index_inj1 (t t' : Fin (cfg0 a0).N) (h : ((cfg0 a0).win 1).index t = ((cfg0 a0).win 1).index t') :
    ((cfg0 a0).win 1).clip ((cfg0 a0).grid.coords t) = ((cfg0 a0).win 1).clip ((cfg0 a0).grid.coords t') := by
  show clip0_1 (grid0.coords t) = clip0_1 (grid0.coords t')
  have h' : cc0_transform_1 (grid0.coords t) = cc0_transform_1 (grid0.coords t') := h
  funext a; unfold clip0_1; rw [h']

theorem index_inj2 (t t' : Fin (cfg0 a0).N) (h : ((cfg0 a0).win 2).index t = ((cfg0 a0).win 2).index t') :
    ((cfg0 a0).win 2).clip ((cfg0 a0).grid.coords t) = ((cfg0 a0).win 2).clip ((cfg0 a0).grid.coords t') := by
  show clip0_2 (grid0.coords t) = clip0_2 (grid0.coords t')
  have h' : cc0_transform_2 (grid0.coords t) = cc0_transform_2 (grid0.coords t') := h
  funext a; unfold clip0_2; rw [h']

theorem before0_0 (c : Dev nD) (t : Fin (cfg0 a0).N) (d) : (dat0 (U := U) a0 V P c).before 0 t d = embB a0 V t := by
  rw [(dat0 (U := U) a0 V P c).before_in_eq_fetched 0 rfl (fun _ => rfl) (fun _ _ _ => rfl) (blockOf0_keep a0 V P c 0) t d]
  exact (dat0 (U := U) a0 V P c).fetched_of_clip_none 0 t (fun _ => rfl) d (anyOf a0 0)
theorem before0_1 (c : Dev nD) (t : Fin (cfg0 a0).N) (d) : (dat0 (U := U) a0 V P c).before 1 t d = wB a0 V t d :=
  (dat0 (U := U) a0 V P c).before_in_eq_fetched 1 rfl (fun _ => rfl) (index_inj1 a0) (blockOf0_keep a0 V P c 1) t d
theorem before0_2 (c : Dev nD) (t : Fin (cfg0 a0).N) (d) : (dat0 (U := U) a0 V P c).before 2 t d = bB a0 V t d :=
  (dat0 (U := U) a0 V P c).before_in_eq_fetched 2 rfl (fun _ => rfl) (index_inj2 a0) (blockOf0_keep a0 V P c 2) t d

/-! ## The body obligation -/

/-- The current staging memref of window `w`. -/
abbrev st0 (w : Fin 5) (t : Fin (cfg0 a0).N) := ((cfg0 a0).win w).stage ((cfg0 a0).slots t w)

/-- The body at a point, on what the pipeline calls it with. -/
abbrev bodyAt0 (t : Fin (cfg0 a0).N) : Prog (TpuEff nD τ sig (Elt F) Λ₀ .tc) PUnit :=
  cc0__fwd_kernel (grid0.coords t) (Memref.whole main_arg0) (Memref.isWhole_whole _)
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))
    (spec0_3.stage ((cfg0 a0).slots t 3)) (hstage0_3 (((cfg0 a0).slots t 3).cast nbuf0_3))
    (spec0_4.stage ((cfg0 a0).slots t 4)) (hstage0_4 (((cfg0 a0).slots t 4).cast nbuf0_4))
    (Memref.whole cc0_scratch0) (Memref.isWhole_whole _)

theorem row0 (t : Fin (cfg0 a0).N) :
    defs₀ (F := F) .tc (cfg0 a0).body ((cfg0 a0).bodyArgs t ((cfg0 a0).slots t)) = bodyAt0 a0 t := by
  unfold defs₀; rw [Defs.onTc_tc]

/-- What the body is called with, -/
def bodyPre0 (c : Dev nD) (t : Fin (cfg0 a0).N) : sProp 𝕄 :=
  iprop((dat0 a0 V P c).Φ t.castSucc ∗ (dat0 a0 V P c).owesAt () t.castSucc
    ∗ (∃ d, owns (c : Thread nD τ) (st0 a0 0 t) fullShare ((dat0 (U := U) a0 V P c).before 0 t d))
    ∗ (∃ d, owns (c : Thread nD τ) (st0 a0 1 t) fullShare ((dat0 (U := U) a0 V P c).before 1 t d))
    ∗ (∃ d, owns (c : Thread nD τ) (st0 a0 2 t) fullShare ((dat0 (U := U) a0 V P c).before 2 t d))
    ∗ (∃ Y, ⌜(rdat0 (U := U) a0 V P R3 RC c).Finds 3 t Y⌝ ∗ owns (c : Thread nD τ) (st0 a0 3 t) fullShare Y)
    ∗ (∃ Y, ⌜(rdat0 (U := U) a0 V P R3 RC c).Finds 4 t Y⌝ ∗ owns (c : Thread nD τ) (st0 a0 4 t) fullShare Y))

/-- and what it returns. -/
def bodyPost0 (c : Dev nD) (t : Fin (cfg0 a0).N) : sProp 𝕄 :=
  iprop((dat0 a0 V P c).Φ t.succ ∗ (dat0 a0 V P c).owesAt () t.succ
    ∗ owns (c : Thread nD τ) (st0 a0 0 t) fullShare ((dat0 (U := U) a0 V P c).after 0 t)
    ∗ (∃ d, owns (c : Thread nD τ) (st0 a0 1 t) fullShare (((cfg0 a0).win 1).fill ((cfg0 a0).grid.coords t) d (((cfg0 a0).win 1).cut ((cfg0 a0).grid.coords t) ((dat0 (U := U) a0 V P c).after 1 t))))
    ∗ (∃ d, owns (c : Thread nD τ) (st0 a0 2 t) fullShare (((cfg0 a0).win 2).fill ((cfg0 a0).grid.coords t) d (((cfg0 a0).win 2).cut ((cfg0 a0).grid.coords t) ((dat0 (U := U) a0 V P c).after 2 t))))
    ∗ (∃ X, ⌜Rl0 a0 R3 RC 3 t X⌝ ∗ owns (c : Thread nD τ) (st0 a0 3 t) fullShare X)
    ∗ (∃ X, ⌜Rl0 a0 R3 RC 4 t X⌝ ∗ owns (c : Thread nD τ) (st0 a0 4 t) fullShare X))

theorem coords0 (t : Fin grid0.N) : (grid0.coords t 0).val = t.val := by
  revert t; decide +kernel

/-- An input block the body leaves as it found it. -/
theorem kept0 (c : Dev nD) (w : Fin 5) (t : Fin (cfg0 a0).N) (d) :
    (owns (c : Thread nD τ) (st0 a0 w t) fullShare (blk0 a0 V w t d) : sProp 𝕄)
      ⊢ iprop(∃ d, owns (c : Thread nD τ) (st0 a0 w t) fullShare
          (((cfg0 a0).win w).fill ((cfg0 a0).grid.coords t) d (((cfg0 a0).win w).cut ((cfg0 a0).grid.coords t) ((dat0 (U := U) a0 V P c).after w t)))) := by
  iintro H; iexists d; rw [keep0 a0 V P c w t d]; iexact H

theorem sound0 {hx : k0_chk1 (tbl a0 posT)} (hS : Spec a0 V hx P R3 RC) (c : Dev nD) (t : Fin (cfg0 a0).N) :
    bodyPre0 (U := U) a0 V P R3 RC c t
      ⊢ wp frame (wpE (defs₀ (F := F)) Variants.none c none) Set.univ (bodyAt0 a0 t) (fun _ => bodyPost0 a0 V P R3 RC c t) := by
  unfold bodyPre0 bodyPost0 bodyAt0
  rw [show (dat0 (U := U) a0 V P c).Φ t.castSucc = inv0 a0 P c t.val from rfl,
    show (dat0 (U := U) a0 V P c).Φ t.succ = inv0 a0 P c (t.val + 1) from rfl,
    show (dat0 (U := U) a0 V P c).owesAt () t.succ = (dat0 (U := U) a0 V P c).owesAt () t.castSucc from rfl]
  simp only [before0_0, before0_1, before0_2]
  unfold inv0
  iintro ⟨⟨⟨%s, %hs, HS⟩, HT, HR⟩, HO, ⟨%d0, H0⟩, ⟨%d1, H1⟩, ⟨%d2, H2⟩, ⟨%Y3, %hY3, H3⟩, ⟨%Y4, %hY4, H4⟩⟩
  iapply (fwd_run c (grid0.coords t) (Memref.whole main_arg0) (Memref.isWhole_whole _)
    (spec0_0.stage ((cfg0 a0).slots t 0)) (hstage0_0 (((cfg0 a0).slots t 0).cast nbuf0_0))
    (spec0_1.stage ((cfg0 a0).slots t 1)) (hstage0_1 (((cfg0 a0).slots t 1).cast nbuf0_1))
    (spec0_2.stage ((cfg0 a0).slots t 2)) (hstage0_2 (((cfg0 a0).slots t 2).cast nbuf0_2))
    (spec0_3.stage ((cfg0 a0).slots t 3)) (hstage0_3 (((cfg0 a0).slots t 3).cast nbuf0_3))
    (spec0_4.stage ((cfg0 a0).slots t 4)) (hstage0_4 (((cfg0 a0).slots t 4).cast nbuf0_4))
    (Memref.whole cc0_scratch0) (Memref.isWhole_whole _)
    (tbl a0) (embB a0 V t) (wB a0 V t d1) (bB a0 V t d2) Y3 Y4 s hx Set.univ _)
  isplitl [HT]; · iexact HT
  isplitl [H0]; · iexact H0
  isplitl [H1]; · iexact H1
  isplitl [H2]; · iexact H2
  isplitl [H3]; · iexact H3
  isplitl [H4]; · iexact H4
  isplitl [HS]; · iexact HS
  iintro ⟨HT, H0, H1, H2, H3, H4, HS⟩
  isplitl [HS HT HR]
  · isplitl [HS]
    · iexists _; isplitr; swap; · iexact HS
      ipureintro; exact hS.step t s d1 d2 hs
    isplitl [HT]; · iexact HT
    iexact HR
  isplitl [HO]; · iexact HO
  isplitl [H0]; · iexact H0
  isplitl [H1]; · iapply (kept0 a0 V P c 1 t d1); iexact H1
  isplitl [H2]; · iapply (kept0 a0 V P c 2 t d2); iexact H2
  isplitl [H3]
  · iexists _; isplitr; swap; · iexact H3
    ipureintro; exact hS.tile t d1 d2
  iexists _; isplitr; swap; · iexact H4
  ipureintro
  intro ht
  have hi : (grid0.coords t 0).val = 20 := (coords0 t).trans ht
  have e : t.val + 1 = 21 := by omega
  exact cStep_last RC hi _ (hS.last _ (e ▸ hS.step t s d1 d2 hs))

theorem body0 {hx : k0_chk1 (tbl a0 posT)} (hS : Spec a0 V hx P R3 RC) (c : Dev nD) :
    (rdat0 (U := U) a0 V P R3 RC c).BodyObligation (defs₀ (F := F)) Variants.none () Set.univ :=
  Pipeline.BodyObligationRel.toRRel _ fun t => by
    rw [bigSep_W0, bigSep_W0, row0]
    exact triple_restated (sound0 a0 V P R3 RC hS c t) rfl .rfl fun _ => .rfl

end Cert.KernelIdeal.Norm

end
-- ==== Proof.Exit0.lean ====
/-
  What the projection call leaves in its arrays: the logits tile by tile, the log-normaliser from its last point,
  the inputs as they were.
-/
module

public import proofs.«01_k».proof.Proof.Region0
public import Idealize.ShloMosaic.Lib.Pipeline.ArrRel

@[expose] public section

noncomputable section

namespace Cert.KernelIdeal.Norm

open Cert.KernelIdeal Cert.KernelIdeal.Gen Cert.Norm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

/-! ## The output windows do not depend on the table -/

/-- The logits window. -/
abbrev w03 : Pipeline.Window sig grid0 :=
  Pipeline.Window.ofSpecClip (Memref.whole main_call0_v0_0) S1x49152.size cc0_transform_3 reads0_3 true false 2 stage0_3 sem0_3
    Facts₀.hrank0 Facts₀.hreads0_3 Facts₀.hstart0_3 Facts₀.nbuf0_3 (Memref.isWhole_whole _) Facts₀.hwx0_3 Facts₀.hwxs0_3 Facts₀.hstage0_3

/-- The log-normaliser's window. -/
abbrev w04 : Pipeline.Window sig grid0 :=
  Pipeline.Window.ofSpec (Memref.whole main_call0_v0_1) S1x1.size cc0_transform_4 reads0_4 true false 1 stage0_4 sem0_4
    Facts₀.hrank0 Facts₀.hreads0_4 Facts₀.hinb0_4 Facts₀.nbuf0_4 (Memref.isWhole_whole _) Facts₀.hwx0_4 Facts₀.hstage0_4

theorem flush3 : ∀ t : Fin grid0.N, w03.flush t = true := by decide +kernel
theorem covers3 : w03.Covers := by decide +kernel
abbrev t20 : Fin grid0.N := ⟨20, by decide⟩
theorem whole4 : w04.WholeAt t20 := by decide +kernel

variable {F : FTy → Type} [FloatOps F]
variable {U : Type} [URA U]

local notation "𝕄" => MT nD τ sig Unit (Elt F) ℕ U ℕ

variable (a0 : (pcfg0 (F := F)).Adm)

theorem win3_eq : (cfg0 a0).win 3 = w03 := rfl
theorem win4_eq : (cfg0 a0).win 4 = w04 := rfl

/-! ## Tiles of the logits -/

/-- The tile that holds a logit, and the logit's place in it. -/
def tileOf (k : S1x1000000.Idx) : Fin grid0.N :=
  ⟨(k 1).val / 49152, by
    have h : (k 1).val < 1000000 := (k 1).isLt
    show (k 1).val / 49152 < 21
    omega⟩
def laneOf (k : S1x1000000.Idx) : S1x49152.Idx
  | 0 => ⟨0, by decide⟩
  | 1 => ⟨(k 1).val % 49152, Nat.mod_lt _ (by decide)⟩

theorem index3_0 : ∀ t : Fin grid0.N, w03.index t 0 = 0 := by decide +kernel
theorem index3_1 : ∀ t : Fin grid0.N, w03.index t 1 = t.val := by decide +kernel

theorem emb3_1 (t : Fin grid0.N) (y : (w03.xblock (grid0.coords t)).Idx) : (((w03.rect t).emb y) 1 : ℕ) = t.val * 49152 + (y 1).val := by
  rw [w03.rect_emb_val t y 1, index3_1]; rfl

theorem y1_lt (t : Fin grid0.N) (y : (w03.xblock (grid0.coords t)).Idx) : (y 1).val < 49152 :=
  lt_of_lt_of_le (y 1).isLt (w03.xsize_le _ 1)

theorem tileOf_emb (t : Fin grid0.N) (y : (w03.xblock (grid0.coords t)).Idx) : tileOf ((w03.rect t).emb y) = t := by
  apply Fin.ext
  show (((w03.rect t).emb y) 1 : ℕ) / 49152 = t.val
  have := y1_lt t y
  rw [emb3_1]; omega

theorem laneOf_emb (t : Fin grid0.N) (y : (w03.xblock (grid0.coords t)).Idx) :
    laneOf ((w03.rect t).emb y) = w03.xinj (grid0.coords t) y := by
  funext a
  apply Fin.ext
  fin_cases a
  · have h : (w03.xinj (grid0.coords t) y 0).val < 1 := (w03.xinj (grid0.coords t) y 0).isLt
    show 0 = (w03.xinj (grid0.coords t) y 0).val
    omega
  · show (((w03.rect t).emb y) 1 : ℕ) % 49152 = (y 1).val
    have := y1_lt t y
    rw [emb3_1]; omega

theorem tile_emb {α : Type} (X : Fin grid0.N → S1x49152.Idx → α) (t : Fin grid0.N) (y : (w03.xblock (grid0.coords t)).Idx) :
    X t (w03.xinj (grid0.coords t) y) = X (tileOf ((w03.rect t).emb y)) (laneOf ((w03.rect t).emb y)) := by
  rw [tileOf_emb, laneOf_emb]

/-! ## The arrays at the end -/

variable (V : Valuation τ sig (Elt F)) (P : ℕ → (S2.Idx → Elt F .f32) → Prop)
  (R3 : Fin (cfg0 a0).N → (S1x49152.Idx → Elt F .f32) → Prop) (RC : (S1x1.Idx → Elt F .f32) → Prop)

/-- The logits are tiles that satisfy `R3`, and the log-normaliser satisfies `RC`. -/
structure Good (G : S1x1000000.Idx → Elt F .f32) (C : S1x1.Idx → Elt F .f32) : Prop where
  tiles : ∃ X : Fin (cfg0 a0).N → S1x49152.Idx → Elt F .f32, (∀ t, R3 t (X t)) ∧ G = fun k => X (tileOf k) (laneOf k)
  norm : RC C

theorem exit0 (c : Dev nD) (A : (w : Fin 5) → Buf (Elt F) ((((cfg0 a0).win w)).arr.view.loc (c.tc : Thread nD τ)))
    (hA : ∀ w, (rdat0 (U := U) a0 V P R3 RC c).ArrAt w (cfg0 a0).N (A w)) :
    (A 0 = V (Proc.devRef .tc main_arg1) ∧ A 1 = V (Proc.devRef .tc main_arg2) ∧ A 2 = V (Proc.devRef .tc main_arg3)) ∧
      Good a0 R3 RC (A 3) (A 4) := by
  obtain ⟨after, hl, he⟩ := RDat.ArrAt.exists_exact_all hA
  refine ⟨⟨?_, ?_, ?_⟩, ⟨⟨fun t => after 3 t, fun t => ?_, ?_⟩, ?_⟩⟩
  · exact (he 0).trans (Dat.arrAt_in _ 0 rfl _)
  · exact (he 1).trans (Dat.arrAt_in _ 1 rfl _)
  · exact (he 2).trans (Dat.arrAt_in _ 2 rfl _)
  · exact Dat.toRRel_leaves _ (rfl : fgt0 3 = true) (hl 3 t t.isLt (flush3 t))
  · refine (he 3).trans (Dat.arrAt_eq_of_covers _ 3 _ covers3 (fun t _ y => ?_) (Memref.isWhole_whole _))
    exact tile_emb (fun t => after 3 t) t y
  · have h4 := Dat.toRRel_leaves _ (rfl : fgt0 4 = true) (hl 4 t20 t20.isLt whole4.1)
    have h5 : RC (after 4 t20) := h4 rfl
    have e : A 4 = after 4 t20 := by
      refine (he 4).trans (Dat.arrAt_eq_of_after_last _ 4 t20 whole4 _ ?_)
      exact fun j => rfl
    rw [e]; exact h5

end Cert.KernelIdeal.Norm

end
-- ==== Proof.Region1.lean ====
/-
  The subtracting pallas_call: its proof data, its body obligation and its region, entered at any contents of the
  unscoped buffers.  It leaves the result holding, at each index, the logit there less the log-normaliser.
-/
module

public import proofs.«01_k».proof.Proof.Region0
public import proofs.«01_k».proof.Proof.Gen.KernelIdeal.Points
public import Idealize.ShloMosaic.Lib.Pipeline.ArrRel

@[expose] public section

noncomputable section

namespace Cert.KernelIdeal.Norm

open Cert.KernelIdeal Cert.KernelIdeal.Gen Cert.Norm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

theorem posC_unique (x : S1x1.Idx) : x = posC := by
  funext a
  apply Fin.ext
  fin_cases a
  · exact Nat.lt_one_iff.mp (x 0).isLt
  · exact Nat.lt_one_iff.mp (x 1).isLt

theorem covers2 : win1_2.Covers := by decide +kernel

variable {F : FTy → Type} [FloatOps F]
variable {U : Type} [URA U]

local notation "𝕄" => MT nD τ sig Unit (Elt F) ℕ U ℕ

/-- The kernel's arithmetic, at an index. -/
theorem pay1_at (g : S1x131072.Idx → Elt F .f32) (z : Elt F .f32) (j : S1x131072.Idx) :
    k1_pay1 g z j = FloatOps.subf (F := F) (g j) z := by
  unfold k1_pay1
  rw [shapeCast_self]
  rfl

variable (V : Valuation τ sig (Elt F))

/-- What window `w` holds after the fetch at point `t`, on a staging buffer that held `d`. -/
def blk1 (w : Fin 3) (t : Fin cfg1.N) (d : (cfg1.win w).block.Idx → Elt F (cfg1.win w).elt) :
    (cfg1.win w).block.Idx → Elt F (cfg1.win w).elt :=
  (cfg1.win w).fill (cfg1.grid.coords t) d ((cfg1.win w).blk t |>.view.read (Elt F) (V (Proc.devRef .tc (Pipeline.arrRef spec1 w))))

/-- Any contents of a staging buffer. -/
def any1 (w : Fin 3) : (cfg1.win w).block.Idx → Elt F (cfg1.win w).elt := fun _ => Classical.arbitrary _

abbrev gB (t : Fin cfg1.N) (d : S1x131072.Idx → Elt F .f32) : S1x131072.Idx → Elt F .f32 := blk1 V 0 t d
abbrev zB (t : Fin cfg1.N) : S1x1.Idx → Elt F .f32 := blk1 V 1 t (any1 1)

/-- What the body leaves in the result's block. -/
abbrev rB (t : Fin cfg1.N) (d : S1x131072.Idx → Elt F .f32) : S1x131072.Idx → Elt F .f32 := k1_pay1 (gB V t d) (zB V t posC)

def dat1 (c : Dev nD) : Dat τ (Elt F) Unit ℕ U ℕ cfg1 c where
  A w := V (Proc.devRef .tc (Pipeline.arrRef spec1 w))
  after w t := match w with
    | ⟨0, _⟩ => blk1 V 0 t (any1 0)
    | ⟨1, _⟩ => blk1 V 1 t (any1 1)
    | ⟨2, _⟩ => rB V t (any1 0)
  Φ _ := Pipeline.scopedRest spec1 c
  q _ := fullShare
  owed _ := 0

theorem blockOf1_keep0 (c : Dev nD) (t : Fin cfg1.N) :
    (cfg1.win 0).cut (cfg1.grid.coords t) ((dat1 (U := U) V c).after 0 t) = (dat1 (U := U) V c).blockOf 0 t :=
  (dat1 (U := U) V c).cut_fetched 0 t (any1 0)
theorem blockOf1_keep1 (c : Dev nD) (t : Fin cfg1.N) :
    (cfg1.win 1).cut (cfg1.grid.coords t) ((dat1 (U := U) V c).after 1 t) = (dat1 (U := U) V c).blockOf 1 t :=
  (dat1 (U := U) V c).cut_fetched 1 t (any1 1)

theorem index1_inj0 (t t' : Fin cfg1.N) (h : (cfg1.win 0).index t = (cfg1.win 0).index t') :
    (cfg1.win 0).clip (cfg1.grid.coords t) = (cfg1.win 0).clip (cfg1.grid.coords t') := by
  show (fun a => Pipeline.Clip.of (cc1_transform_0 (grid1.coords t) a) (S1x131072.size a) (S1x1000000.size a)) = _
  have h' : cc1_transform_0 (grid1.coords t) = cc1_transform_0 (grid1.coords t') := h
  rw [h']; rfl

theorem before1_0 (c : Dev nD) (t : Fin cfg1.N) (d) : (dat1 (U := U) V c).before 0 t d = gB V t d :=
  (dat1 (U := U) V c).before_in_eq_fetched 0 rfl (fun _ => rfl) index1_inj0 (blockOf1_keep0 V c) t d
theorem before1_1 (c : Dev nD) (t : Fin cfg1.N) (d) : (dat1 (U := U) V c).before 1 t d = zB V t := by
  rw [(dat1 (U := U) V c).before_in_eq_fetched 1 rfl (fun _ => rfl) (fun _ _ _ => rfl) (blockOf1_keep1 V c) t d]
  exact (dat1 (U := U) V c).fetched_of_clip_none 1 t (fun _ => rfl) d (any1 1)

/-! ## The body obligation -/

/-- The part of the result's block inside the array does not depend on what the staging buffer held outside. -/
theorem cut_rB (t : Fin cfg1.N) (d d' : S1x131072.Idx → Elt F .f32) :
    (cfg1.win 2).cut (cfg1.grid.coords t) (rB V t d) = (cfg1.win 2).cut (cfg1.grid.coords t) (rB V t d') := by
  funext j
  have e : ∀ d, gB V t d ((cfg1.win 2).xinj (cfg1.grid.coords t) j)
      = ((cfg1.win 0).blk t |>.view.read (Elt F) (V (Proc.devRef .tc (Pipeline.arrRef spec1 0)))) j :=
    fun d => (cfg1.win 0).fill_xinj (cfg1.grid.coords t) d _ j
  exact (pay1_at _ _ _).trans (((congrArg (fun v => FloatOps.subf (F := F) v (zB V t posC)) ((e d).trans (e d').symm))).trans (pay1_at _ _ _).symm)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 (U := U) V c).before 0 t d))
    ∗ (∃ d, owns (c : Thread nD τ) (st1_1 t) fullShare ((dat1 (U := U) V c).before 1 t d))
    ∗ (∃ d, owns (c : Thread nD τ) (st1_2 t) fullShare ((dat1 (U := U) V c).before 2 t d)))

def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 (U := U) V c).after 0 t))))
    ∗ owns (c : Thread nD τ) (st1_1 t) fullShare ((dat1 (U := U) V c).after 1 t)
    ∗ (∃ d, owns (c : Thread nD τ) (st1_2 t) fullShare ((cfg1.win 2).fill (cfg1.grid.coords t) d ((cfg1.win 2).cut (cfg1.grid.coords t) ((dat1 (U := U) V c).after 2 t)))))

theorem row1 (t : Fin cfg1.N) : defs₀ (F := F) .tc cfg1.body (cfg1.bodyArgs t (cfg1.slots t)) = bodyAt1 t := by
  unfold defs₀; rw [Defs.onTc_tc]

theorem kept1_0 (c : Dev nD) (t : Fin cfg1.N) (d) :
    (owns (c : Thread nD τ) (st1_0 t) fullShare (gB V t d) : sProp 𝕄)
      ⊢ iprop(∃ d, owns (c : Thread nD τ) (st1_0 t) fullShare ((cfg1.win 0).fill (cfg1.grid.coords t) d ((cfg1.win 0).cut (cfg1.grid.coords t) ((dat1 (U := U) V c).after 0 t)))) := by
  iintro H; iexists d; rw [blockOf1_keep0 V c t]; iexact H

theorem kept1_2 (c : Dev nD) (t : Fin cfg1.N) (d) :
    (owns (c : Thread nD τ) (st1_2 t) fullShare (rB V t d) : sProp 𝕄)
      ⊢ iprop(∃ d, owns (c : Thread nD τ) (st1_2 t) fullShare ((cfg1.win 2).fill (cfg1.grid.coords t) d ((cfg1.win 2).cut (cfg1.grid.coords t) ((dat1 (U := U) V c).after 2 t)))) := by
  iintro H; iexists (rB V t d)
  rw [show (cfg1.win 2).fill (cfg1.grid.coords t) (rB V t d) ((cfg1.win 2).cut (cfg1.grid.coords t) ((dat1 (U := U) V c).after 2 t)) = rB V t d
    from (cfg1.win 2).fill_congr_cut (cfg1.grid.coords t) (cut_rB V t d (any1 0))]
  iexact H

theorem sound1 (c : Dev nD) (t : Fin cfg1.N) :
    bodyPre1 (U := U) V c t
      ⊢ wp frame (wpE (defs₀ (F := F)) Variants.none c none) Set.univ (bodyAt1 t) (fun _ => bodyPost1 V c t) := by
  unfold bodyPre1 bodyPost1 bodyAt1
  rw [show (dat1 (U := U) V c).Φ t.succ = (dat1 (U := U) V c).Φ t.castSucc from rfl,
    show (dat1 (U := U) V c).owesAt () t.succ = (dat1 (U := U) V c).owesAt () t.castSucc from rfl]
  simp only [before1_0, before1_1]
  iintro ⟨HΦ, HO, ⟨%d0, H0⟩, ⟨%d1, H1⟩, ⟨%d2, H2⟩⟩
  iapply (norm_run c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (gB V t d0) (zB V t) _ Set.univ _)
  isplitl [H0]; · iexact H0
  isplitl [H1]; · iexact H1
  isplitl [H2]; · iexact H2
  iintro ⟨H0, H1, H2⟩
  isplitl [HΦ]; · iexact HΦ
  isplitl [HO]; · iexact HO
  isplitl [H0]; · iapply (kept1_0 V c t d0); iexact H0
  isplitl [H1]; · iexact H1
  iapply (kept1_2 V c t d0); iexact H2

theorem body1 (c : Dev nD) :
    Pipeline.BodyObligationLoose (dat1 (U := U) V c) (defs₀ (F := F)) Variants.none () Set.univ := fun t => by
  rw [bigSep_W1, bigSep_W1, row1]
  exact triple_restated (sound1 V c t) rfl .rfl fun _ => .rfl

/-! ## The arrays at the end -/

/-- The result: at each index the logit less the log-normaliser. -/
def result (G : S1x1000000.Idx → Elt F .f32) (C : S1x1.Idx → Elt F .f32) : S1x1000000.Idx → Elt F .f32 :=
  fun k => FloatOps.subf (F := F) (G k) (C posC)

theorem zB_eq (t : Fin cfg1.N) : zB V t posC = (V (Proc.devRef .tc main_call0_v0_1) : S1x1.Idx → Elt F .f32) posC := by
  have h := (cfg1.win 1).fill_xinj (cfg1.grid.coords t) (any1 (F := F) 1) ((cfg1.win 1).blk t |>.view.read (Elt F) (V (Proc.devRef .tc (Pipeline.arrRef spec1 1)))) posC
  refine h.trans ?_
  exact congrArg (V (Proc.devRef .tc main_call0_v0_1) : S1x1.Idx → Elt F .f32) (posC_unique _)

theorem exit1_2 (c : Dev nD) : (dat1 (U := U) V c).arrAt 2 cfg1.N
    = result (V (Proc.devRef .tc main_call0_v0_0)) (V (Proc.devRef .tc main_call0_v0_1)) := by
  refine Dat.arrAt_eq_of_covers _ 2 _ covers2 (fun t _ y => ?_) (Memref.isWhole_whole _)
  have e : gB V t (any1 0) ((cfg1.win 2).xinj (cfg1.grid.coords t) y)
      = ((cfg1.win 0).blk t |>.view.read (Elt F) (V (Proc.devRef .tc (Pipeline.arrRef spec1 0)))) y :=
    (cfg1.win 0).fill_xinj (cfg1.grid.coords t) (any1 0) _ y
  refine (pay1_at (gB V t (any1 0)) (zB V t posC) ((cfg1.win 2).xinj (cfg1.grid.coords t) y)).trans ?_
  rw [e, zB_eq]
  rfl

end Cert.KernelIdeal.Norm

end
-- ==== Proof.Segments.lean ====
/-
  The two pallas_calls as segments over the unscoped buffers.
  The projection is entered with every unscoped buffer as launched and left with the logits and the log-normaliser at
  contents that are `Good`.  The subtraction is entered at any contents and leaves the result at `result` of them.
-/
module

public import proofs.«01_k».proof.Proof.Exit0
public import proofs.«01_k».proof.Proof.Region1
public import Idealize.ShloMosaic.Lib.Pipeline.RegionArraysT

@[expose] public section

noncomputable section

namespace Cert.KernelIdeal.Norm

open Cert.KernelIdeal Cert.KernelIdeal.Gen Cert.Norm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]
variable {U : Type} [URA U]

local notation "𝕄" => MT nD τ sig Unit (Elt F) ℕ U ℕ

variable (a : (p : Fin 2) → (pcfgs (F := F) p).Adm) (V V' : Valuation τ sig (Elt F))
  (P : ℕ → (S2.Idx → Elt F .f32) → Prop)
  (R3 : Fin (cfg0 (a 0)).N → (S1x49152.Idx → Elt F .f32) → Prop) (RC : (S1x1.Idx → Elt F .f32) → Prop)

/-- The exact proof data of both calls: the projection entered at `V`, the subtraction at `V'`. -/
def pdats : (p : Fin 2) → (c : Dev nD) → Dat τ (Elt F) Unit ℕ U ℕ (Pipeline.pin (pcfgs (F := F)) a p) c
  | ⟨0, _⟩ => fun c => dat0 (a 0) V P c
  | ⟨1, _⟩ => fun c => dat1 V' c

/-- The same with the projection's outputs held to their predicates. -/
def rdats : (p : Fin 2) → (c : Dev nD) → RDat τ (Elt F) Unit ℕ U ℕ (Pipeline.pin (pcfgs (F := F)) a p) c
  | ⟨0, _⟩ => fun c => rdat0 (a 0) V P R3 RC c
  | ⟨1, _⟩ => fun c => (dat1 V' c).toR

/-- No core owes another anything: no level is assigned. -/
abbrev L : GSem nD τ sig → Finset Unit := fun _ => ∅
abbrev lv : GSem nD τ sig → Unit → ℕ := fun _ _ => 0

/-- The unscoped buffers at a valuation. -/
abbrev heldAt (c : Dev nD) (W : Valuation τ sig (Elt F)) : sProp 𝕄 := StableHlo.held (c : Thread nD τ) (Pipeline.ucRefs τ sig) W
abbrev noDebt (c : Dev nD) : sProp 𝕄 := iprop(∃ W, owes (c : Thread nD τ) (0 : CellTallies nD τ sig Unit) W)

/-- The launch contents with the logits and the log-normaliser replaced. -/
def put01 (G : S1x1000000.Idx → Elt F .f32) (C : S1x1.Idx → Elt F .f32) : Valuation τ sig (Elt F) :=
  Function.update (Function.update V (Proc.devRef .tc main_call0_v0_0) G) (Proc.devRef .tc main_call0_v0_1) C

theorem put01_0 (G C) : put01 V G C (Proc.devRef .tc main_call0_v0_0) = G := by
  unfold put01
  rw [Function.update_of_ne (StableHlo.devRef_ne_of_ne (by decide)), Function.update_self]
theorem put01_1 (G C) : put01 V G C (Proc.devRef .tc main_call0_v0_1) = C := by
  unfold put01; rw [Function.update_self]
theorem put01_of (G C) (r : Ref sig .tc) (h0 : r ≠ main_call0_v0_0) (h1 : r ≠ main_call0_v0_1) :
    put01 V G C (Proc.devRef .tc r) = V (Proc.devRef .tc r) := by
  unfold put01
  rw [Function.update_of_ne (StableHlo.devRef_ne_of_ne h1), Function.update_of_ne (StableHlo.devRef_ne_of_ne h0)]
theorem put01_ne (G C) (b : DevRef τ sig) (h0 : b ≠ Proc.devRef .tc main_call0_v0_0) (h1 : b ≠ Proc.devRef .tc main_call0_v0_1) :
    put01 V G C b = V b := by
  unfold put01
  rw [Function.update_of_ne h1, Function.update_of_ne h0]

/-- The buffers the projection neither stages nor reads as its table. -/
abbrev rest0Refs : Finset (DevRef τ sig) :=
  (Pipeline.ucRefs τ sig \ Pipeline.arrRefs spec0) \ Pipeline.tblRefs pre0

theorem tbl_sub : Pipeline.tblRefs (τ := τ) pre0 ⊆ Pipeline.ucRefs τ sig \ Pipeline.arrRefs spec0 :=
  Pipeline.tblRefs_sub_ucRefs_sdiff spec0 pre0 (by decide) (by decide)

theorem held_parts (c : Dev nD) (W : Valuation τ sig (Elt F)) :
    (heldAt (U := U) c W) = iprop(StableHlo.held (c : Thread nD τ) (Pipeline.arrRefs spec0) W
      ∗ StableHlo.held (c : Thread nD τ) (Pipeline.tblRefs pre0) W ∗ StableHlo.held (c : Thread nD τ) rest0Refs W) := by
  unfold heldAt
  rw [StableHlo.held_sub_split (c : Thread nD τ) (Pipeline.arrRefs_sub_ucRefs spec0 (by decide)) W,
    StableHlo.held_sub_split (c : Thread nD τ) tbl_sub W]

theorem mem_arr0 (w : Fin 5) : Proc.devRef (τ := τ) .tc (Pipeline.arrRef spec0 w) ∈ Pipeline.arrRefs (τ := τ) spec0 :=
  Finset.mem_map.mpr ⟨_, Finset.mem_image.mpr ⟨w, Finset.mem_univ _, rfl⟩, rfl⟩

theorem rest_put (c : Dev nD) (G C) :
    (StableHlo.held (c : Thread nD τ) rest0Refs (put01 V G C) : sProp 𝕄) = StableHlo.held (c : Thread nD τ) rest0Refs V := by
  refine StableHlo.held_congr (c : Thread nD τ) fun b hb => ?_
  have hb' := (Finset.mem_sdiff.mp (Finset.mem_sdiff.mp hb).1).2
  exact put01_ne V G C b (fun h => hb' (h ▸ mem_arr0 3)) (fun h => hb' (h ▸ mem_arr0 4))

theorem tbl_put (c : Dev nD) (G C) :
    (StableHlo.held (c : Thread nD τ) (Pipeline.tblRefs pre0) (put01 V G C) : sProp 𝕄) = StableHlo.held (c : Thread nD τ) (Pipeline.tblRefs pre0) V := by
  refine StableHlo.held_congr (c : Thread nD τ) fun b hb => ?_
  have hb' := (Finset.mem_sdiff.mp (tbl_sub hb)).2
  exact put01_ne V G C b (fun h => hb' (h ▸ mem_arr0 3)) (fun h => hb' (h ▸ mem_arr0 4))

/-! ## The projection's region -/

/-- After the projection: every unscoped buffer as launched but the logits and the log-normaliser, and those good. -/
def mid (c : Dev nD) (R : sProp 𝕄) : sProp 𝕄 :=
  iprop(∃ (G : S1x1000000.Idx → Elt F .f32) (C : S1x1.Idx → Elt F .f32),
    ⌜Good (a 0) R3 RC G C⌝ ∗ heldAt c (put01 V G C) ∗ R ∗ noDebt c)

theorem share0 (c : Dev nD) (w) : (pdats (U := U) a V V' P 0 c).share w = fullShare := by
  unfold Dat.share
  split <;> rfl

theorem arrays0 (c : Dev nD) (G : (w : Fin 5) → Buf (Elt F) ((((cfg0 (a 0)).win w)).arr.view.loc (c.tc : Thread nD τ)))
    (W : Valuation τ sig (Elt F)) (hG : ∀ w, G w = W (Proc.devRef .tc (Pipeline.arrRef spec0 w))) :
    ((dat0 (U := U) (a 0) V P c).arrays G : sProp 𝕄) = StableHlo.held (c : Thread nD τ) (Pipeline.arrRefs spec0) W :=
  Pipeline.arrays_held (pcfgs (F := F)) a (pdats a V V P) 0 launch0 c (share0 a V V P c) G W hG

theorem table0 (hT : ∀ k, (a 0).1 k = V (Proc.devRef .tc (pre0.ref k))) (c : Dev nD) :
    (Pipeline.prefHeld pre0 c (fun _ => fullShare) (a 0).1 : sProp 𝕄) = StableHlo.held (c : Thread nD τ) (Pipeline.tblRefs pre0) V :=
  Pipeline.prefHeld_held pre0 (by decide) c (a 0).1 V hT

theorem entry0 (hT : ∀ k, (a 0).1 k = V (Proc.devRef .tc (pre0.ref k))) (c : Dev nD) (R : sProp 𝕄) :
    iprop(heldAt c V ∗ R ∗ noDebt c)
      ⊢ iprop((dat0 (U := U) (a 0) V P c).arrays (dat0 (U := U) (a 0) V P c).A
        ∗ Pipeline.prefHeld pre0 c (fun _ => fullShare) (a 0).1
        ∗ (dat0 (U := U) (a 0) V P c).owesAt () 0 ∗ StableHlo.held (c : Thread nD τ) rest0Refs V ∗ R) := by
  rw [held_parts, table0 a V hT c, arrays0 a V P c (dat0 (U := U) (a 0) V P c).A V (fun _ => rfl)]
  iintro ⟨⟨Ha, Ht, Hr⟩, HR, HO⟩
  isplitl [Ha]; · iexact Ha
  isplitl [Ht]; · iexact Ht
  isplitl [HO]
  · unfold Dat.owesAt Pipeline.owesWithin Dat.bound
    icases HO with ⟨%W, HO⟩; iexists W; isplitr; · ipureintro; exact fun _ _ => Or.inl trivial
    iexact HO
  isplitl [Hr]; · iexact Hr
  iexact HR

theorem table_word (c : Dev nD) :
    (Pipeline.prefHeld pre0 c (fun _ => fullShare) (a 0).1 : sProp 𝕄)
      = owns (c : Thread nD τ) (Memref.whole main_arg0) fullShare (tbl (a 0)) := by
  rw [owns_whole]
  unfold Pipeline.prefHeld
  exact bigSep_univ_eq_bigSepL [(0 : Fin 1)] (by decide) (by decide) _

theorem init0 {hx : k0_chk1 (tbl (a 0) posT)} (hS : Spec (a 0) V hx P R3 RC) (c : Dev nD) :
    iprop(Pipeline.prefHeld pre0 c (fun _ => fullShare) (a 0).1 ∗ Pipeline.scopedRest spec0 c) ⊢ inv0 (U := U) (a 0) P c 0 := by
  rw [table_word, scopedRest0_eq]
  unfold inv0 rest0
  iintro ⟨Ht, H0, H1, H2, H3, ⟨%s, HS⟩, H4⟩
  isplitl [HS]
  · iexists s; isplitr; · ipureintro; exact hS.init s
    rw [owns_whole]; iexact HS
  isplitl [Ht]; · iexact Ht
  isplitl [H0]; · iexact H0
  isplitl [H1]; · iexact H1
  isplitl [H2]; · iexact H2
  isplitl [H3]; · iexact H3
  iexact H4

theorem final0 (c : Dev nD) (t : ℕ) :
    inv0 (U := U) (a 0) P c t ⊢ iprop(Pipeline.prefHeld pre0 c (fun _ => fullShare) (a 0).1 ∗ BI.emp ∗ Pipeline.scopedRest spec0 c) := by
  rw [table_word, scopedRest0_eq]
  unfold inv0 rest0
  iintro ⟨⟨%s, -, HS⟩, Ht, H0, H1, H2, H3, H4⟩
  isplitl [Ht]; · iexact Ht
  isplitr; · iempintro
  isplitl [H0]; · iexact H0
  isplitl [H1]; · iexact H1
  isplitl [H2]; · iexact H2
  isplitl [H3]; · iexact H3
  isplitl [HS]; · iexists s; rw [← owns_whole]; iexact HS
  iexact H4

theorem leave0 (hT : ∀ k, (a 0).1 k = V (Proc.devRef .tc (pre0.ref k))) (c : Dev nD) (R : sProp 𝕄) :
    iprop((rdat0 (U := U) (a 0) V P R3 RC c).arraysAt (cfg0 (a 0)).N
        ∗ (dat0 (U := U) (a 0) V P c).owesAt () (Fin.last (cfg0 (a 0)).N)
        ∗ Pipeline.prefHeld pre0 c (fun _ => fullShare) (a 0).1 ∗ StableHlo.held (c : Thread nD τ) rest0Refs V ∗ R)
      ⊢ mid a V R3 RC c R := by
  have h : ((rdat0 (U := U) (a 0) V P R3 RC c).arraysAt (cfg0 (a 0)).N : sProp 𝕄)
      ⊢ iprop(∃ A : (w : Fin 5) → Buf (Elt F) ((((cfg0 (a 0)).win w)).arr.view.loc (c.tc : Thread nD τ)),
          ⌜∀ w, (rdat0 (U := U) (a 0) V P R3 RC c).ArrAt w (cfg0 (a 0)).N (A w)⌝ ∗ (dat0 (U := U) (a 0) V P c).arrays A) := by
    unfold RDat.arraysAt Dat.arrays
    refine (BI.bigSep_exists_pi Finset.univ _).trans ?_
    iintro ⟨%A, H⟩
    ihave H' := (BI.bigSep_pure_sep Finset.univ (fun w => (rdat0 (U := U) (a 0) V P R3 RC c).ArrAt w (cfg0 (a 0)).N (A w)) _) $$ H
    icases H' with ⟨%hA, H⟩
    iexists A
    isplitr; · ipureintro; exact fun w => hA w (Finset.mem_univ _)
    iexact H
  rw [table0 a V hT c]
  iintro ⟨Ha, HO, Ht, Hr, HR⟩
  ihave Ha' := h $$ Ha
  icases Ha' with ⟨%A, %hA, Ha⟩
  obtain ⟨⟨h0, h1, h2⟩, hg⟩ := exit0 (a 0) V P R3 RC c A hA
  unfold mid
  iexists (A 3); iexists (A 4)
  isplitr; · ipureintro; exact hg
  rw [held_parts, rest_put, tbl_put, ← arrays0 a V P c A (put01 V (A 3) (A 4)) (fun w => by
    fin_cases w
    · exact h0.trans (put01_of V (A 3) (A 4) main_arg1 (by decide) (by decide)).symm
    · exact h1.trans (put01_of V (A 3) (A 4) main_arg2 (by decide) (by decide)).symm
    · exact h2.trans (put01_of V (A 3) (A 4) main_arg3 (by decide) (by decide)).symm
    · exact (put01_0 V (A 3) (A 4)).symm
    · exact (put01_1 V (A 3) (A 4)).symm)]
  isplitl [Ha Ht Hr]
  · isplitl [Ha]; · iexact Ha
    isplitl [Ht]; · iexact Ht
    iexact Hr
  isplitl [HR]; · iexact HR
  unfold Dat.owesAt Pipeline.owesWithin
  icases HO with ⟨%W, -, HO⟩; iexists W; iexact HO

theorem enter0 (hT : ∀ k, (a 0).1 k = V (Proc.devRef .tc (pre0.ref k))) (c : Dev nD) (R S T : sProp 𝕄) :
    iprop(iprop(heldAt c V ∗ R ∗ noDebt c) ∗ S ∗ T)
      ⊢ |={Set.univ}=> iprop((dat0 (U := U) (a 0) V P c).arrays (dat0 (U := U) (a 0) V P c).A
        ∗ Pipeline.prefHeld pre0 c (fun _ => fullShare) (a 0).1
        ∗ (dat0 (U := U) (a 0) V P c).owesAt () 0 ∗ BI.emp ∗ StableHlo.held (c : Thread nD τ) rest0Refs V ∗ R) := by
  iintro ⟨H, -, -⟩
  imodintro
  ihave H' := (entry0 a V P hT c R) $$ H
  icases H' with ⟨Ha, Ht, HO, Hr⟩
  isplitl [Ha]; · iexact Ha
  isplitl [Ht]; · iexact Ht
  isplitl [HO]; · iexact HO
  isplitr; · iempintro
  iexact Hr

/-- The projection's region. -/
def seg0 (hT : ∀ k, (a 0).1 k = V (Proc.devRef .tc (pre0.ref k)))
    {hx : k0_chk1 (tbl (a 0) posT)} (hS : Spec (a 0) V hx P R3 RC) (R : Dev nD → sProp 𝕄) :
    Pipeline.RDat.RegionSeg (pcfgs (F := F)) a (rdats (U := U) a V V' P R3 RC) () defs₀ Variants.none L lv 0 where
  win := (launch0 (F := F)).to₀.win
  block_pos := (launch0 (F := F)).to₀.block_pos
  stage_whole := (launch0 (F := F)).to₀.stage_whole
  K := PEmpty
  osem k := k.elim
  ho := Pipeline.OwnSemFacts.none _
  hbody c := body0 (F := F) (U := U) (a 0) V P R3 RC hS c
  hwaits c := Pipeline.RDat.hwaits_of_owed_zero (pcfgs (F := F)) a (rdats (U := U) a V V' P R3 RC) () L lv 0 (fun _ _ => rfl) c
  pre c := iprop(heldAt c V ∗ R c ∗ noDebt c)
  post c := mid a V R3 RC c (R c)
  X _ := BI.emp
  Y c := Pipeline.prefHeld pre0 c (fun _ => fullShare) (a 0).1
  Z c := iprop(StableHlo.held (c : Thread nD τ) rest0Refs V ∗ R c)
  hentry c := enter0 (F := F) (U := U) a V P hT c (R c) _ _
  hin c := (show iprop(BI.emp ∗ Pipeline.prefHeld pre0 c (fun _ => fullShare) (a 0).1 ∗ Pipeline.scopedRest spec0 c)
      ⊢ (iprop(Pipeline.prefHeld pre0 c (fun _ => fullShare) (a 0).1 ∗ Pipeline.scopedRest spec0 c) : sProp 𝕄) from by
    iintro ⟨-, Ht, Hr⟩
    isplitl [Ht]; · iexact Ht
    iexact Hr).trans (init0 a V P R3 RC hS c)
  hout c := by
    rw [Pipeline.ownSems0_none]
    exact final0 a P c _
  hexit c := (leave0 a V P R3 RC hT c (R c)).trans (by iintro H; imodintro; iexact H)

/-! ## The subtraction's region -/

/-- The contents with the result replaced. -/
def put2 : Valuation τ sig (Elt F) :=
  Function.update V (Proc.devRef .tc main_v0)
    (result (V (Proc.devRef .tc main_call0_v0_0)) (V (Proc.devRef .tc main_call0_v0_1)) : S1x1000000.Idx → Elt F .f32)

theorem put2_self : put2 V (Proc.devRef .tc main_v0)
    = (result (V (Proc.devRef .tc main_call0_v0_0)) (V (Proc.devRef .tc main_call0_v0_1)) : S1x1000000.Idx → Elt F .f32) := by
  unfold put2; rw [Function.update_self]
theorem put2_ne (b : DevRef τ sig) (h : b ≠ Proc.devRef .tc main_v0) : put2 V b = V b := by
  unfold put2; rw [Function.update_of_ne h]
theorem put2_of (r : Ref sig .tc) (h : r ≠ main_v0) : put2 V (Proc.devRef .tc r) = V (Proc.devRef .tc r) :=
  put2_ne V _ (StableHlo.devRef_ne_of_ne h)

abbrev rest1Refs : Finset (DevRef τ sig) := Pipeline.ucRefs τ sig \ Pipeline.arrRefs spec1

theorem held_parts1 (c : Dev nD) (W : Valuation τ sig (Elt F)) :
    (heldAt (U := U) c W) = iprop(StableHlo.held (c : Thread nD τ) (Pipeline.arrRefs spec1) W
      ∗ StableHlo.held (c : Thread nD τ) rest1Refs W) :=
  StableHlo.held_sub_split (c : Thread nD τ) (Pipeline.arrRefs_sub_ucRefs spec1 (by decide)) W

theorem mem_arr1 (w : Fin 3) : Proc.devRef (τ := τ) .tc (Pipeline.arrRef spec1 w) ∈ Pipeline.arrRefs (τ := τ) spec1 :=
  Finset.mem_map.mpr ⟨_, Finset.mem_image.mpr ⟨w, Finset.mem_univ _, rfl⟩, rfl⟩

theorem rest_put1 (c : Dev nD) :
    (StableHlo.held (c : Thread nD τ) rest1Refs (put2 V) : sProp 𝕄) = StableHlo.held (c : Thread nD τ) rest1Refs V := by
  refine StableHlo.held_congr (c : Thread nD τ) fun b hb => ?_
  exact put2_ne V b (fun h => (Finset.mem_sdiff.mp hb).2 (h ▸ mem_arr1 2))

theorem share1 (c : Dev nD) (w) : (pdats (U := U) a V V' P 1 c).share w = fullShare := by
  unfold Dat.share
  split <;> rfl

include a in
theorem arrays1 (c : Dev nD) (G : (w : Fin 3) → Buf (Elt F) (((cfg1.win w)).arr.view.loc (c.tc : Thread nD τ)))
    (W : Valuation τ sig (Elt F)) (hG : ∀ w, G w = W (Proc.devRef .tc (Pipeline.arrRef spec1 w))) :
    ((dat1 (U := U) V c).arrays G : sProp 𝕄) = StableHlo.held (c : Thread nD τ) (Pipeline.arrRefs spec1) W :=
  Pipeline.arrays_held (pcfgs (F := F)) a (pdats a V V (fun _ _ => True)) 1 launch1 c (share1 a V V (fun _ _ => True) c) G W hG

theorem enter1 (c : Dev nD) (S T : sProp 𝕄) :
    iprop(iprop(heldAt c V ∗ noDebt c) ∗ S ∗ T)
      ⊢ |={Set.univ}=> iprop((dat1 (U := U) V c).arrays ((dat1 (U := U) V c).arrAt · 0)
        ∗ Pipeline.prefHeld ((pcfgs (F := F) 1).pre) c (fun _ => fullShare) (a 1).1
        ∗ (dat1 (U := U) V c).owesAt () 0 ∗ BI.emp ∗ StableHlo.held (c : Thread nD τ) rest1Refs V) := by
  rw [held_parts1, arrays1 a V c ((dat1 (U := U) V c).arrAt · 0) V (fun _ => rfl)]
  iintro ⟨⟨⟨Ha, Hr⟩, HO⟩, -, -⟩
  imodintro
  isplitl [Ha]; · iexact Ha
  isplitr
  · unfold Pipeline.prefHeld
    rw [show (Finset.univ : Finset (Fin (pcfgs (F := F) 1).pre.K)) = ∅ from rfl, bigSep_empty]
    iempintro
  isplitl [HO]
  · unfold Dat.owesAt Pipeline.owesWithin Dat.bound
    icases HO with ⟨%W, HO⟩; iexists W; isplitr; · ipureintro; exact fun _ _ => Or.inl trivial
    iexact HO
  isplitr; · iempintro
  iexact Hr

theorem exits1 (c : Dev nD) (w : Fin 3) :
    (dat1 (U := U) V c).arrAt w cfg1.N = put2 V (Proc.devRef .tc (Pipeline.arrRef spec1 w)) := by
  fin_cases w
  · exact (Dat.arrAt_in _ 0 rfl _).trans (put2_of V main_call0_v0_0 (by decide)).symm
  · exact (Dat.arrAt_in _ 1 rfl _).trans (put2_of V main_call0_v0_1 (by decide)).symm
  · exact (exit1_2 V c).trans (put2_self V).symm

include a in
theorem leave1 (c : Dev nD) :
    iprop((dat1 (U := U) V c).arrays ((dat1 (U := U) V c).arrAt · cfg1.N)
        ∗ (dat1 (U := U) V c).owesAt () (Fin.last cfg1.N) ∗ BI.emp ∗ StableHlo.held (c : Thread nD τ) rest1Refs V)
      ⊢ |={Set.univ}=> iprop(heldAt c (put2 V) ∗ noDebt c) := by
  rw [held_parts1, rest_put1, arrays1 a V c ((dat1 (U := U) V c).arrAt · cfg1.N) (put2 V) (exits1 V c)]
  iintro ⟨Ha, HO, -, Hr⟩
  imodintro
  isplitl [Ha Hr]
  · isplitl [Ha]; · iexact Ha
    iexact Hr
  unfold Dat.owesAt Pipeline.owesWithin
  icases HO with ⟨%W, -, HO⟩; iexists W; iexact HO

/-- The subtraction's region, entered at `V`. -/
def seg1 : Pipeline.RegionSeg (pcfgs (F := F)) a (pdats (U := U) a V' V P) () defs₀ Variants.none L lv 1 where
  win := (launch1 (F := F)).to₀.win
  block_pos := (launch1 (F := F)).to₀.block_pos
  stage_whole := (launch1 (F := F)).to₀.stage_whole
  K := PEmpty
  osem k := k.elim
  ho := Pipeline.OwnSemFacts.none _
  hbody c := body1 (F := F) (U := U) V c
  hwaits c := Pipeline.hwaits_of_owed_zero (pcfgs (F := F)) a (pdats (U := U) a V' V P) () L lv 1 (fun _ _ => rfl) c
  pre c := iprop(heldAt c V ∗ noDebt c)
  post c := iprop(heldAt c (put2 V) ∗ noDebt c)
  X _ := BI.emp
  Y _ := BI.emp
  Z c := StableHlo.held (c : Thread nD τ) rest1Refs V
  hentry c := enter1 (F := F) (U := U) a V c _ _
  hin c := (show iprop(BI.emp ∗ Pipeline.prefHeld ((pcfgs (F := F) 1).pre) c (fun _ => fullShare) (a 1).1 ∗ Pipeline.scopedRest spec1 c)
      ⊢ (Pipeline.scopedRest spec1 c : sProp 𝕄) from by
    iintro ⟨-, -, Hr⟩
    iexact Hr)
  hout c := by
    rw [Pipeline.ownSems0_none]
    exact (show (Pipeline.scopedRest spec1 c : sProp 𝕄) ⊢ iprop(BI.emp ∗ BI.emp ∗ Pipeline.scopedRest spec1 c) from by
      iintro Hr
      isplitr; · iempintro
      isplitr; · iempintro
      iexact Hr)
  hexit c := leave1 (F := F) (U := U) a V c

end Cert.KernelIdeal.Norm

end
-- ==== Proof.Run.lean ====
/-
  The whole kernel: the projection, then the subtraction entered at whatever good contents the projection left.
  The second region's ghost state is a second copy of the pipeline library's, so that the region can be chosen once
  the first one's outputs are known.
-/
module

public import proofs.«01_k».proof.Proof.Segments
public import proofs.«01_k».proof.Proof.Gen.KernelIdeal.Regions
public import Idealize.ShloMosaic.Lib.Pipeline.Kit
public import Idealize.ShloMosaic.Adequacy

@[expose] public section

noncomputable section

namespace Cert.KernelIdeal.Norm

open Cert.KernelIdeal Cert.KernelIdeal.Gen Cert.Norm
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

/-- Two copies of the pipeline library's algebra, one per region. -/
abbrev UU : Type := UR sig nD τ × UR sig nD τ

local notation "𝕄" => MT nD τ sig Unit (Elt F) ℕ UU ℕ

variable (a : (p : Fin 2) → (pcfgs (F := F) p).Adm) (V : Valuation τ sig (Elt F))
  (P : ℕ → (S2.Idx → Elt F .f32) → Prop)
  (R3 : Fin (cfg0 (a 0)).N → (S1x49152.Idx → Elt F .f32) → Prop) (RC : (S1x1.Idx → Elt F .f32) → Prop)

abbrev E1 : Emb (URounds (GSem nD τ sig) Unit) 𝕄 := embL
abbrev E2 : Emb (URounds (GSem nD τ sig) Unit) 𝕄 := embR

abbrev pinned : (p : Fin 2) → Pipeline.Cfg sig Λ₀ := Pipeline.pin (pcfgs (F := F)) a

/-- The second region's ghost state. -/
def spare (c : Dev nD) : sProp 𝕄 :=
  iprop(Pipeline.cellsGhost (pinned a) (E2 (F := F)) 1 c ∗ Pipeline.toksInit (pinned a) (E2 (F := F)) 1 c)

/-- The kernel's end: the result computed from good contents, the rest as launched. -/
def done (c : Dev nD) : sProp 𝕄 :=
  iprop(∃ (G : S1x1000000.Idx → Elt F .f32) (C : S1x1.Idx → Elt F .f32),
    ⌜Good (a 0) R3 RC G C⌝ ∗ heldAt c (put2 (put01 V G C)))

include V P in
theorem seg1_wp (W : Valuation τ sig (Elt F)) (c : Dev nD) {β : Type}
    (k : PUnit → Prog (TpuEff nD τ sig (Elt F) (Pipeline.Sig Λ₀ (Fin 2) fun p => (pcfgs (F := F) p).Adm) .tc) β) (K : β → sProp 𝕄) :
    iprop((iprop(boundary (c : Thread nD τ) ∗ heldAt c (put2 W) ∗ noDebt c)
          -∗ wp frame (wpE (Pipeline.defs (pcfgs (F := F)) defs₀) (Variants.lift Variants.none) (c : Thread nD τ) none) Set.univ (k ⟨⟩) K)
        ∗ boundary (c : Thread nD τ) ∗ iprop(heldAt c W ∗ noDebt c) ∗ levAts (L : GSem nD τ sig → Finset Unit) lv
        ∗ Pipeline.cellsGhost (pinned a) (E2 (F := F)) 1 c ∗ Pipeline.toksInit (pinned a) (E2 (F := F)) 1 c)
      ⊢ wp frame (wpE (Pipeline.defs (pcfgs (F := F)) defs₀) (Variants.lift Variants.none) (c : Thread nD τ) none) Set.univ
          (.op (.customCall (Pipeline.entry 1) ()) k) K :=
  Pipeline.RegionSeg.wp (pcfgs (F := F)) a (pdats (U := UU) a V W P) () (cellOf_inj a) (E2 (F := F)) defs₀ Variants.none L lv
    (seg1 (U := UU) a W V P) c none (fun u hu => by simp at hu) k K

/-- The subtraction, entered at any good contents. -/
def host1 (P : ℕ → (S2.Idx → Elt F .f32) → Prop) : Pipeline.HostSeg (Name := ℕ) (U := UU) (pcfgs (F := F)) defs₀ Variants.none L lv where
  prog := Prog.lift (.customCall (Pipeline.entry 1) ())
  pre c := mid a V R3 RC c (spare a c)
  post c := iprop(done a V R3 RC c ∗ noDebt c)
  run c β k K := by
    unfold mid spare
    iintro ⟨Hk, Hb, ⟨%G, %C, %hg, Hh, ⟨Hc, Ht⟩, HO⟩, Hl⟩
    iapply (seg1_wp a V P (put01 V G C) c k K)
    isplitl [Hk]
    · iintro ⟨Hb, Hh, HO⟩
      iapply Hk
      isplitl [Hb]; · iexact Hb
      isplitl [Hh]
      · unfold done
        iexists G; iexists C
        isplitr; · ipureintro; exact hg
        iexact Hh
      iexact HO
    isplitl [Hb]; · iexact Hb
    isplitl [Hh HO]
    · isplitl [Hh]; · iexact Hh
      iexact HO
    isplitl [Hl]; · iexact Hl
    isplitl [Hc]; · iexact Hc
    iexact Ht

/-- The kernel's two segments. -/
abbrev segments (hT : ∀ k, (a 0).1 k = V (Proc.devRef .tc (pre0.ref k)))
    {hx : k0_chk1 (tbl (a 0) posT)} (hS : Spec (a 0) V hx P R3 RC) (c : Dev nD) :
    List (RDat.Seg (pcfgs (F := F)) a (rdats (U := UU) a V V P R3 RC) () defs₀ Variants.none L lv) :=
  [.region (seg0 (U := UU) a V V P R3 RC hT hS (spare a)), .host (host1 a V R3 RC P)]

theorem initial (c : Dev nD) (R S T : sProp 𝕄) :
    iprop(heldAt c V ∗ R ∗ owes (c : Thread nD τ) (0 : CellTallies nD τ sig Unit) ∅ ∗ S ∗ T ∗ spare a c)
      ⊢ iprop(heldAt c V ∗ spare a c ∗ noDebt c) := by
  iintro ⟨Hh, -, HO, -, -, Hs⟩
  isplitl [Hh]; · iexact Hh
  isplitl [Hs]; · iexact Hs
  iexists ∅; iexact HO

/-- The launch element: the pipeline library's, twice. -/
abbrev seed : UR sig nD τ := initOf (Pipeline.cells (pinned a) (cellOf_inj a)) (Pipeline.launchToks (pinned a) (cellOf_inj a))

theorem one_of (f : Dev nD → Fin 2 → sProp 𝕄) :
    (bigSep Finset.univ fun c => bigSep Finset.univ fun p => f c p) ⊢ (bigSep Finset.univ fun c => f c 1 : sProp 𝕄) :=
  bigSep_mono fun _ _ => bigSep_elim (Finset.mem_univ (1 : Fin 2))

theorem funds : (ownU (seed a, seed a) : sProp 𝕄)
    ⊢ |={Set.univ}=> iprop(BI.own (E1 (F := F) (seed a)) ∗ bigSep Finset.univ (spare (F := F) a)) := by
  refine (ownU_pair _ _).trans ?_
  iintro ⟨H1, H2⟩
  imod (Pipeline.fund_ghost (pinned a) (E2 (F := F)) (cellOf_inj a)) $$ H2 with ⟨Hc, Ht⟩
  imodintro
  isplitl [H1]; · iexact H1
  unfold spare
  rw [bigSep_sep']
  isplitl [Hc]
  · iapply (one_of (fun c p => Pipeline.cellsGhost (pinned a) (E2 (F := F)) p c)); iexact Hc
  · iapply (one_of (fun c p => Pipeline.toksInit (pinned a) (E2 (F := F)) p c)); iexact Ht

/-! ## The run -/

variable (m : (ℓ : Loc nD τ sig) → Buf (Elt F) ℓ)

/-- The one core, and its buffers as launched. -/
abbrev core0 : Dev nD := 0
abbrev start : Valuation τ sig (Elt F) := fun b => m (core0, b)

theorem core_unique (c : Dev nD) : c = core0 := Subsingleton.elim (α := Fin 1) _ _

/-- What the final state holds. -/
def Ends (c : Dev nD) (s : MemSt nD τ sig (Elt F)) : Prop :=
  (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    ∧ ∃ (G : S1x1000000.Idx → Elt F .f32) (C : S1x1.Idx → Elt F .f32), Good (a 0) R3 RC G C
        ∧ s.mem ((c.tc : Thread nD τ).loc main_v0) = result G C

theorem keeps (G C) (r : Ref sig .tc) (h0 : r ≠ main_call0_v0_0) (h1 : r ≠ main_call0_v0_1) (h2 : r ≠ main_v0) :
    put2 (put01 V G C) (Proc.devRef .tc r) = V (Proc.devRef .tc r) :=
  (put2_of _ r h2).trans (put01_of V G C r h0 h1)

theorem reads (c : Dev nD) (s' : Phys nD τ sig (Elt F)) :
    iprop(done a (start m) R3 RC c ∗ SI s') ⊢ (|={Set.univ}=> iprop(⌜Ends a R3 RC m c s'.mem⌝ ∗ SI s') : sProp 𝕄) := by
  obtain rfl := core_unique c
  unfold done
  iintro ⟨⟨%G, %C, %hg, Hh⟩, HSI⟩
  unfold heldAt StableHlo.held
  ihave Hr := (pointsTo_read_all (Pipeline.ucRefs τ sig) (fun b => ((core0.tc : Thread nD τ).1, b)) (put2 (put01 (start m) G C)) s') $$ [Hh HSI]
  · isplitl [Hh] <;> iassumption
  icases Hr with ⟨%h, HSI⟩
  imodintro
  isplitr
  · ipureintro
    refine ⟨⟨?_, ?_, ?_, ?_⟩, G, C, hg, ?_⟩
    · exact (h (Proc.devRef .tc main_arg0) (Finset.mem_filter.mpr ⟨StableHlo.devRef_mem_tcRefs main_arg0, by decide⟩)).trans
        (keeps (start m) G C main_arg0 (by decide) (by decide) (by decide))
    · exact (h (Proc.devRef .tc main_arg1) (Finset.mem_filter.mpr ⟨StableHlo.devRef_mem_tcRefs main_arg1, by decide⟩)).trans
        (keeps (start m) G C main_arg1 (by decide) (by decide) (by decide))
    · exact (h (Proc.devRef .tc main_arg2) (Finset.mem_filter.mpr ⟨StableHlo.devRef_mem_tcRefs main_arg2, by decide⟩)).trans
        (keeps (start m) G C main_arg2 (by decide) (by decide) (by decide))
    · exact (h (Proc.devRef .tc main_arg3) (Finset.mem_filter.mpr ⟨StableHlo.devRef_mem_tcRefs main_arg3, by decide⟩)).trans
        (keeps (start m) G C main_arg3 (by decide) (by decide) (by decide))
    · refine (h (Proc.devRef .tc main_v0) (Finset.mem_filter.mpr ⟨StableHlo.devRef_mem_tcRefs main_v0, by decide⟩)).trans ?_
      rw [put2_self, put01_0, put01_1]
  · iexact HSI

set_option backward.isDefEq.respectTransparency.types false in
/-- From any launch memory whose table is the admissible `a 0`, the kernel ends with its arguments unchanged, every
    counter at zero and the result computed from good contents. -/
theorem ends (ρ : Dev nD → PrngReg) (hT : ∀ k, (a 0).1 k = start m (Proc.devRef .tc (pre0.ref k)))
    {hx : k0_chk1 (tbl (a 0) posT)} (hS : Spec (a 0) (start m) hx P R3 RC) :
    θ_run defs (onTc (τ := τ) (main (F := F))) ⟨m, fun _ => 0, ρ⟩ (fun r => (∀ c : Dev nD, Ends a R3 RC m c r.2) ∧ r.2.sem = fun _ => 0) := by
  refine Pipeline.RDat.θ_run_regions_kit_dev_sems (pcfgs (F := F)) a (rdats (U := UU) a (start m) (start m) P R3 RC) () (cellOf_inj a) (E1 (F := F))
    defs₀ Variants.none L lv m ρ main
    (segments a (start m) P R3 RC hT hS)
    (fun c Q => by
      rewrite [main_chain c, RDat.Seg.run_eq_chain,
        show (segments a (start m) P R3 RC hT hS c).map RDat.Seg.prog = [
          Prog.lift (.customCall (Pipeline.entry 0) ()),
          Prog.lift (.customCall (Pipeline.entry 1) ()) ] from rfl]
      dsimp (config := { failIfUnchanged := false }) only
      exact .rfl)
    (fun c => by simp only [segments, RDat.Seg.pipes_host, RDat.Seg.pipes_region, RDat.Seg.pipes_nil]; decide)
    0 (fun _ _ => rfl) (spare a) (seed a, seed a) (funds a)
    (T₀ := fun c => iprop(heldAt c (start m) ∗ spare a c ∗ noDebt c))
    (Tₙ := done a (start m) R3 RC)
    (hch := fun c => ⟨.rfl, .rfl, .rfl⟩)
    (hinit := ?_) (QY := Ends a R3 RC m) (hfin := reads a R3 RC m)
    (hQ := fun _ h hz => ⟨h, funext fun g => hz g (.inr (regions_no_unscoped g.2))⟩)
  have hsplit : ∀ c : Dev nD, iprop(unscopedBufs c (fun b => m ((c.tc : Thread nD τ).loc b)) ∗ unscopedSems0 c
          ∗ owes (c.tc : Thread nD τ) (0 : CellTallies nD τ sig Unit) ∅ ∗ Pipeline.launchCred 0 c ∗ prngReg c (ρ c) ∗ spare a c)
        ⊢ (iprop(heldAt c (start m) ∗ spare a c ∗ noDebt c) : sProp 𝕄) := fun c => by
    obtain rfl := core_unique c
    refine BIBase.Entails.trans ?_ (initial a (start m) core0 (unscopedSems0 core0) (Pipeline.launchCred 0 core0) (prngReg core0 (ρ core0)))
    unfold heldAt
    rw [← Pipeline.unscopedBufs_held (Ix := Unit) (Name := ℕ) (U := UU) (Lvl := ℕ) core0 (start m)]
  iintro ⟨H, -⟩
  imodintro
  have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred 0 c ∗ prngReg c (ρ c) ∗ spare a c))
        ⊢ (bigSep Finset.univ fun c : Dev nD => iprop(heldAt c (start m) ∗ spare a c ∗ noDebt c) : sProp 𝕄) := bigSep_mono fun c _ => hsplit c
  iapply hall; iexact H

end Cert.KernelIdeal.Norm

end
-- ==== Proof.Token.lean ====
/-
  The token: a word in the table's range names a row of the embedding table, so the block of eight rows the kernel
  transfers is inside the table and the row it picks is inside the block.
-/
module

public import proofs.«01_k».proof.Proof.Run
public import proofs.«01_k».proof.Proof.Gen.Pre_token_in_table
public import Idealize.ShloMosaic.Lib.WordArith
public import Idealize.ShloMosaic.Lib.Routing.Words

@[expose] public section

noncomputable section

namespace Cert.KernelIdeal.Norm

open Cert.KernelIdeal Cert.KernelIdeal.Gen
open Idealize.ShloMosaic Idealize.ShloMosaic.TcCoe Idealize.ShloMosaic.WordArith
open Idealize.SL.Sem

/-! ## Words -/

theorem slt_zero {n : ℕ} (hn : n < 2 ^ 31) : IntOp.cmpi .slt (BitVec.ofNat 32 n) 0#32 = 0#1 := by
  have : (BitVec.ofNat 32 n).slt 0#32 = false := by
    rw [BitVec.slt_eq_decide, toInt_ofNat_small n hn, show (0#32 : BitVec 32).toInt = 0 from by decide]
    exact decide_eq_false (by omega)
  simp only [IntOp.cmpi, this]; rfl

/-- A word over eight, rounded down, as the program spells it. -/
def div8 (x : BitVec 32) : BitVec 32 :=
  Scalar.select
      (Scalar.andi
        (Scalar.cmpi .ne
          (Scalar.subi (Scalar.extui (Scalar.cmpi .sgt x 0#32) : BitVec 32) (Scalar.extui (Scalar.cmpi .slt x 0#32)))
          (Scalar.subi (Scalar.extui (Scalar.cmpi .sgt 8#32 0#32)) (Scalar.extui (Scalar.cmpi .slt 8#32 0#32))))
        (Scalar.cmpi .ne (Scalar.remsi x 8#32) 0#32))
      (Scalar.subi (Scalar.divsi x 8#32) 1#32)
      (Scalar.divsi x 8#32)

theorem floor_div {n : ℕ} (hn : n < 1000000) : (div8 (BitVec.ofNat 32 n)).toNat = n / 8 := by
  have hd : Scalar.divsi (BitVec.ofNat 32 n) 8#32 = BitVec.ofNat 32 (n / 8) :=
    Routing.divsi_word .scalar (by omega) (by decide) (by decide)
  have hr : Scalar.remsi (BitVec.ofNat 32 n) 8#32 = BitVec.ofNat 32 (n % 8) :=
    Routing.remsi_word .scalar (by omega) (by decide) (by decide)
  have hl : Scalar.cmpi .slt (BitVec.ofNat 32 n) 0#32 = 0#1 := slt_zero (by omega)
  unfold div8
  rw [hd, hr, hl]
  rcases Nat.eq_zero_or_pos n with rfl | h0
  · decide
  have hg : Scalar.cmpi .sgt (BitVec.ofNat 32 n) 0#32 = 1#1 := by
    have : (0#32 : BitVec 32).slt (BitVec.ofNat 32 n) = true := by
      rw [BitVec.slt_eq_decide, toInt_ofNat_small n (by omega), show (0#32 : BitVec 32).toInt = 0 from by decide]
      exact decide_eq_true (by omega)
    simp only [Scalar.cmpi, IntOp.cmpi, this]; rfl
  rw [hg]
  have hc : Scalar.cmpi .ne
      (Scalar.subi (Scalar.extui 1#1 : BitVec 32) (Scalar.extui 0#1))
      (Scalar.subi (Scalar.extui (Scalar.cmpi .sgt 8#32 0#32)) (Scalar.extui (Scalar.cmpi .slt 8#32 0#32))) = 0#1 := by decide
  rw [hc]
  have hz : ∀ y : BitVec 1, Scalar.andi 0#1 y = 0#1 := by decide
  rw [hz, Scalar.select, if_neg (by decide), BitVec.toNat_ofNat]
  omega

theorem off1_eq {n : ℕ} (hn : n < 1000000) : k0_off1 (BitVec.ofNat 32 n) = ![n % 8, 0] := by
  have hr : Scalar.remsi (BitVec.ofNat 32 n) 8#32 = BitVec.ofNat 32 (n % 8) :=
    Routing.remsi_word .scalar (by omega) (by decide) (by decide)
  have h8 : Scalar.select (Scalar.cmpi .eq 8#32 0#32) 1#32 8#32 = 8#32 := by decide
  have hs : Scalar.cmpi .slt (BitVec.ofNat 32 (n % 8)) 0#32 = 0#1 := slt_zero (by omega)
  have hx : Scalar.xori 0#1 (Scalar.cmpi .slt 8#32 0#32) = 0#1 := by decide
  have hz : ∀ y : BitVec 1, Scalar.andi 0#1 y = 0#1 := by decide
  have hi : (Scalar.indexCast (BitVec.ofNat 32 (n % 8)) : Index).toNat = n % 8 := by
    show (BitVec.ofNat 32 (n % 8)).toNat = n % 8
    rw [BitVec.toNat_ofNat]; omega
  unfold k0_off1
  simp only [h8, hr, hs, hx, hz]
  rw [Scalar.select, if_neg (by decide), hi]

theorem chk1_of {n : ℕ} (hn : n < 1000000) : k0_chk1 (BitVec.ofNat 32 n) := by
  unfold k0_chk1; rw [off1_eq hn]
  have : n % 8 < 8 := Nat.mod_lt _ (by decide)
  intro a
  fin_cases a
  · show n % 8 + 1 ≤ 8; omega
  · show 0 + 128 ≤ 128; omega

variable {F : FTy → Type} [FloatOps F]

theorem at_posT (pf : pre0.Contents (Elt F)) :
    pf.at 0 (Rect.unit (s := S1) ![0] S1.size inb_S1_S1_0) numel1_S1 = pf 0 posT :=
  congrArg (pf 0) (one_posT _)

/-- The block of rows transferred at a token in range. -/
theorem transform_eq {n : ℕ} (hn : n < 1000000) (pf : pre0.Contents (Elt F)) (h : pf 0 posT = BitVec.ofNat 32 n) (i : grid0.Coords) :
    cc0_transform_0 inb_S1_S1_0 numel1_S1 pf i = ![n / 8, 0] := by
  have hb : cc0_transform_0 inb_S1_S1_0 numel1_S1 pf i = ![(div8 (pf 0 posT)).toNat, 0] :=
    congrArg (fun x : BitVec 32 => (![(div8 x).toNat, 0] : Fin 2 → ℕ)) (at_posT pf)
  rw [hb, h, floor_div hn]

theorem ok0_of {n : ℕ} (hn : n < 1000000) (pf : pre0.Contents (Elt F)) (h : pf 0 posT = BitVec.ofNat 32 n) : ok0 pf := by
  intro i
  refine ⟨?_, .inl rfl⟩
  rw [transform_eq hn pf h]
  intro a
  fin_cases a
  · show (n / 8 + 1) * 8 ≤ 1000000; omega
  · show (0 + 1) * 128 ≤ 128; omega

/-! ## The tables -/

/-- The table the projection is entered with at a start memory. -/
def tables (m : (ℓ : Loc nD τ sig) → Buf (Elt F) ℓ) : pre0.Contents (Elt F) :=
  fun k => start m (Proc.devRef .tc (pre0.ref k))

/-- The admissible tables. -/
def adm (m : (ℓ : Loc nD τ sig) → Buf (Elt F) ℓ) (h : ok0 (tables m)) : (p : Fin 2) → (pcfgs (F := F) p).Adm
  | 0 => ⟨tables m, h⟩
  | 1 => cfg1.toPCfg_adm

/-- The precondition, read: the token is a row number. -/
theorem token_of (x : IVec S1 32) (e w : FVec F S1000000x128 .f32) (b : FVec F S1000000 .f32)
    (h : Cert.Pre_token_in_table.fn (F := F) x e w b = fun _ => 1#1) : ∃ n, n < 1000000 ∧ x posT = BitVec.ofNat 32 n := by
  have h0 := congrFun h posT
  change IntOp.andi (BitVec.ofBool ((0#32 : BitVec 32).sle (x posT))) (BitVec.ofBool ((x posT).slt 1000000#32)) = 1#1 at h0
  rw [WordArith.andi_ofBool, WordArith.ofBool_eq_one_iff, Bool.and_eq_true] at h0
  exact ⟨(x posT).toNat, toNat_lt_of_zero_sle_of_slt_ofNat _ _ (by decide) h0.1 h0.2, by simp⟩

variable (m : (ℓ : Loc nD τ sig) → Buf (Elt F) ℓ) (ρ : Dev nD → PrngReg)

/-- The kernel runs from every memory whose token is in range. -/
theorem runs {n : ℕ} (hn : n < 1000000) (h : m ((core0.tc : Thread nD τ).loc main_arg0) posT = BitVec.ofNat 32 n) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  have hx : k0_chk1 (tbl (adm m (ok0_of hn (tables m) h) 0) posT) := by
    show k0_chk1 (m ((core0.tc : Thread nD τ).loc main_arg0) posT)
    rw [h]; exact chk1_of hn
  refine (ends (adm m (ok0_of hn (tables m) h)) (fun _ _ => True) (fun _ _ => True) (fun _ => True) m ρ (fun _ => rfl)
    (hx := hx) ⟨fun _ => trivial, fun _ _ _ _ _ => trivial, fun _ _ _ => trivial, fun _ _ => trivial⟩).mono ?_
  intro r hr
  exact ⟨fun c => (hr.1 c).1, hr.2⟩

/-- As the claims state the precondition. -/
theorem frame_of (h : ∀ c : Dev nD, Cert.Pre_token_in_table.fn (F := F) (m ((c.tc : Thread nD τ).loc main_arg0)) (m ((c.tc : Thread nD τ).loc main_arg1)) (m ((c.tc : Thread nD τ).loc main_arg2)) (m ((c.tc : Thread nD τ).loc main_arg3)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  obtain ⟨n, hn, hx⟩ := token_of _ _ _ _ (h core0)
  exact runs m ρ hn hx

end Cert.KernelIdeal.Norm
-- ==== Proof.Windows.lean ====
/-
  What the projection's input windows bring: the token's row of the embedding, and a tile's rows of the weights and of
  the bias.
-/
module

public import proofs.«01_k».proof.Proof.Token

@[expose] public section

noncomputable section

namespace Cert.KernelIdeal.Norm

open Cert.KernelIdeal Cert.KernelIdeal.Gen Cert.Norm
open Idealize.ShloMosaic Idealize.ShloMosaic.TcCoe

/-- The weights' window. -/
abbrev w01 : Pipeline.Window sig grid0 :=
  Pipeline.Window.ofSpecClip (Memref.whole main_arg2) S49152x128.size cc0_transform_1 reads0_1 false false 2 stage0_1 sem0_1
    Facts₀.hrank0 Facts₀.hreads0_1 Facts₀.hstart0_1 Facts₀.nbuf0_1 (Memref.isWhole_whole _) Facts₀.hwx0_1 Facts₀.hwxs0_1 Facts₀.hstage0_1

/-- The bias's window. -/
abbrev w02 : Pipeline.Window sig grid0 :=
  Pipeline.Window.ofSpecClip (Memref.whole main_arg3) S49152.size cc0_transform_2 reads0_2 false false 2 stage0_2 sem0_2
    Facts₀.hrank0 Facts₀.hreads0_2 Facts₀.hstart0_2 Facts₀.nbuf0_2 (Memref.isWhole_whole _) Facts₀.hwx0_2 Facts₀.hwxs0_2 Facts₀.hstage0_2

theorem index1_0 : ∀ t : Fin grid0.N, w01.index t 0 = t.val := by decide +kernel
theorem index1_1 : ∀ t : Fin grid0.N, w01.index t 1 = 0 := by decide +kernel
theorem index2_0 : ∀ t : Fin grid0.N, w02.index t 0 = t.val := by decide +kernel
theorem size1_0 : ∀ t : Fin grid0.N, w01.xsize (grid0.coords t) 0 = min 49152 (1000000 - 49152 * t.val) := by decide +kernel
theorem size1_1 : ∀ t : Fin grid0.N, w01.xsize (grid0.coords t) 1 = 128 := by decide +kernel
theorem size2_0 : ∀ t : Fin grid0.N, w02.xsize (grid0.coords t) 0 = min 49152 (1000000 - 49152 * t.val) := by decide +kernel

variable {F : FTy → Type} [FloatOps F]

variable (a0 : (pcfg0 (F := F)).Adm) (V : Valuation τ sig (Elt F))

theorem win1_eq : (cfg0 a0).win 1 = w01 := rfl
theorem win2_eq : (cfg0 a0).win 2 = w02 := rfl

theorem moved1 (t : Fin grid0.N) (j : S49152x128.Idx) (h : 49152 * t.val + (j 0).val < 1000000) : w01.moved (grid0.coords t) j = true := by
  refine (w01.moved_iff (grid0.coords t) j).2 fun a => ?_
  have h0 : (j 0).val < 49152 := (j 0).isLt
  have h1 : (j 1).val < 128 := (j 1).isLt
  fin_cases a
  · show (j 0).val < w01.xsize (grid0.coords t) 0
    rw [size1_0]; omega
  · show (j 1).val < w01.xsize (grid0.coords t) 1
    rw [size1_1]; omega

theorem moved2 (t : Fin grid0.N) (j : S49152.Idx) (h : 49152 * t.val + (j 0).val < 1000000) : w02.moved (grid0.coords t) j = true := by
  refine (w02.moved_iff (grid0.coords t) j).2 fun a => ?_
  have h0 : (j 0).val < 49152 := (j 0).isLt
  fin_cases a
  show (j 0).val < w02.xsize (grid0.coords t) 0
  rw [size2_0]; omega

/-- A staged weight. -/
theorem wB_at (t : Fin grid0.N) (d : S49152x128.Idx → Elt F .f32) (j : S49152x128.Idx) (h : 49152 * t.val + (j 0).val < 1000000)
    (k : S1000000x128.Idx) (h0 : (k 0).val = 49152 * t.val + (j 0).val) (h1 : (k 1).val = (j 1).val) :
    wB a0 V t d j = V (Proc.devRef .tc main_arg2) k := by
  have hm := moved1 t j h
  have e : wB a0 V t d j = V (Proc.devRef .tc main_arg2)
      ((w01.rect t).emb fun a => ⟨(j a).val, (w01.moved_iff (grid0.coords t) j).mp hm a⟩) := dif_pos hm
  rw [e]
  refine congrArg _ (funext fun a => Fin.ext ?_)
  rw [w01.rect_emb_val t _ a]
  fin_cases a
  · show w01.index t 0 * 49152 + (j 0).val = (k 0).val
    rw [index1_0, h0]; omega
  · show w01.index t 1 * 128 + (j 1).val = (k 1).val
    rw [index1_1, h1]; omega

/-- A staged bias. -/
theorem bB_at (t : Fin grid0.N) (d : S49152.Idx → Elt F .f32) (j : S49152.Idx) (h : 49152 * t.val + (j 0).val < 1000000)
    (k : S1000000.Idx) (h0 : (k 0).val = 49152 * t.val + (j 0).val) :
    bB a0 V t d j = V (Proc.devRef .tc main_arg3) k := by
  have hm := moved2 t j h
  have e : bB a0 V t d j = V (Proc.devRef .tc main_arg3)
      ((w02.rect t).emb fun a => ⟨(j a).val, (w02.moved_iff (grid0.coords t) j).mp hm a⟩) := dif_pos hm
  rw [e]
  refine congrArg _ (funext fun a => Fin.ext ?_)
  rw [w02.rect_emb_val t _ a]
  fin_cases a
  show w02.index t 0 * 49152 + (j 0).val = (k 0).val
  rw [index2_0, h0]; omega

/-- A staged entry of the embedding. -/
theorem embB_at {n : ℕ} (hn : n < 1000000) (h : a0.1 0 posT = BitVec.ofNat 32 n) (t : Fin grid0.N) (j : S8x128.Idx)
    (k : S1000000x128.Idx) (h0 : (k 0).val = 8 * (n / 8) + (j 0).val) (h1 : (k 1).val = (j 1).val) :
    embB a0 V t j = V (Proc.devRef .tc main_arg1) k := by
  have e : embB a0 V t j = V (Proc.devRef .tc main_arg1) ((((cfg0 a0).win 0).rect t).emb j) := rfl
  rw [e]
  have hi : (((cfg0 a0).win 0).index t : Fin 2 → ℕ) = ![n / 8, 0] := transform_eq hn a0.1 h (grid0.coords t)
  have hr : ∀ a : Fin 2, (((((cfg0 a0).win 0).rect t).emb j : S1000000x128.Idx) a).val
      = (((cfg0 a0).win 0).index t : Fin 2 → ℕ) a * S8x128.size a + (j a).val := fun a => ((cfg0 a0).win 0).rect_emb_val t j a
  refine congrArg _ (funext fun a : Fin 2 => Fin.ext ?_)
  refine (hr a).trans ?_
  rw [hi]
  match a with
  | 0 => show n / 8 * 8 + (j 0).val = (k 0).val; rw [h0]; omega
  | 1 => show 0 * 128 + (j 1).val = (k 1).val; rw [h1]; omega

/-- The staged row of the token. -/
theorem tokRow_at {n : ℕ} (hn : n < 1000000) (h : a0.1 0 posT = BitVec.ofNat 32 n) (hx : k0_chk1 (tbl a0 posT)) (t : Fin grid0.N)
    (j : S1x128.Idx) (k : S1000000x128.Idx) (h0 : (k 0).val = n) (h1 : (k 1).val = (j 1).val) :
    tokRow (F := F) (tbl a0 posT) hx (embB a0 V t) j = V (Proc.devRef .tc main_arg1) k := by
  have hj : (j 0).val < 1 := (j 0).isLt
  have ho : k0_off1 (tbl a0 posT) = ![n % 8, 0] := (congrArg k0_off1 h).trans (off1_eq hn)
  refine embB_at a0 V hn h t ((Rect.unit (s := S8x128) (k0_off1 (tbl a0 posT)) S1x128.size (k0_off1_inb _ hx)).emb j) k ?_ ?_
  · rw [Rect.emb_apply, h0]
    show n = 8 * (n / 8) + (k0_off1 (tbl a0 posT) 0 + 1 * (j 0).val)
    rw [show k0_off1 (tbl a0 posT) 0 = n % 8 from congrFun ho 0]; omega
  · rw [Rect.emb_apply, h1]
    show (j 1).val = k0_off1 (tbl a0 posT) 1 + 1 * (j 1).val
    rw [show k0_off1 (tbl a0 posT) 1 = 0 from congrFun ho 1]; omega

end Cert.KernelIdeal.Norm
-- ==== Proof.Softmax.lean ====
/-
  The running maximum and the running rescaled sum of a log-softmax, over the extended reals: a row of N numbers below
  plus infinity, read in blocks of c, the lanes past the row's end at minus infinity.
-/
module

public import Idealize.ShloMosaic.PureOps.Ideal
public import Mathlib.Data.EReal.Operations
public import Mathlib.Algebra.BigOperators.Intervals

@[expose] public section

noncomputable section

namespace Cert.Norm

open Idealize.ShloMosaic

variable (N : ℕ) (T : ℕ → EReal)

/-- The row, minus infinity past its end. -/
def lane (k : ℕ) : EReal := if k < N then T k else ⊥

/-- The maximum of the first `n` lanes. -/
def top (n : ℕ) : EReal := (Finset.range n).sup (lane N T)

/-- The sum of the first `n` lanes' exponentials, taken relative to a maximum. -/
def mass (n : ℕ) (m : EReal) : EReal := ∑ k ∈ Finset.range n, Ideal.exp (lane N T k - m)

/-- A lane's exponential, as a real. -/
def weight (m : ℝ) (k : ℕ) : ℝ := if lane N T k = ⊥ then 0 else Real.exp ((lane N T k).toReal - m)

variable {N T}

theorem lane_lt (hT : ∀ k, T k < ⊤) (k : ℕ) : lane N T k < ⊤ := by
  unfold lane
  split
  · exact hT k
  · exact bot_lt_top

theorem exp_lane (hT : ∀ k, T k < ⊤) (m : ℝ) (k : ℕ) : Ideal.exp (lane N T k - (m : EReal)) = (weight N T m k : EReal) := by
  unfold weight
  split
  · rename_i h
    rw [h, EReal.bot_sub, Ideal.exp_bot, EReal.coe_zero]
  · rename_i h
    lift lane N T k to ℝ using ⟨(lane_lt hT k).ne, h⟩ with r
    rw [EReal.toReal_coe, ← EReal.coe_sub, Ideal.exp_coe]

theorem coe_sum_range (f : ℕ → ℝ) (n : ℕ) : ((∑ k ∈ Finset.range n, f k : ℝ) : EReal) = ∑ k ∈ Finset.range n, (f k : EReal) := by
  induction n with
  | zero => simp
  | succ n ih => rw [Finset.sum_range_succ, Finset.sum_range_succ, EReal.coe_add, ih]

theorem mass_eq (hT : ∀ k, T k < ⊤) (n : ℕ) (m : ℝ) :
    mass N T n (m : EReal) = ((∑ k ∈ Finset.range n, weight N T m k : ℝ) : EReal) := by
  rw [mass, coe_sum_range]; exact Finset.sum_congr rfl fun k _ => exp_lane hT m k

/-- The maximum is a real number unless every lane so far is minus infinity. -/
theorem top_real (hT : ∀ k, T k < ⊤) {n : ℕ} (h : top N T n ≠ ⊥) : ∃ m : ℝ, top N T n = (m : EReal) := by
  have ht : top N T n < ⊤ := (Finset.sup_lt_iff bot_lt_top).2 fun k _ => lane_lt hT k
  lift top N T n to ℝ using ⟨ht.ne, h⟩ with m
  exact ⟨m, rfl⟩

/-- Lanes at minus infinity weigh nothing. -/
theorem mass_bot {n : ℕ} (h : top N T n = ⊥) (m : EReal) : mass N T n m = 0 :=
  Finset.sum_eq_zero fun k hk => by
    rw [le_bot_iff.1 ((Finset.le_sup (f := lane N T) hk).trans_eq h), EReal.bot_sub, Ideal.exp_bot]

theorem weight_mul (m m' : ℝ) (k : ℕ) : weight N T m k * Real.exp (m - m') = weight N T m' k := by
  unfold weight
  split
  · exact zero_mul _
  · rw [← Real.exp_add]; congr 1; ring

/-- One block: the maximum. -/
theorem top_step (n c : ℕ) : top N T (n + c) = max (top N T n) ((Finset.range c).sup fun l => lane N T (n + l)) := by
  apply le_antisymm
  · refine Finset.sup_le fun k hk => ?_
    have hk := Finset.mem_range.1 hk
    by_cases h : k < n
    · exact (Finset.le_sup (f := lane N T) (Finset.mem_range.2 h)).trans (le_max_left _ _)
    · refine le_trans ?_ (le_max_right _ _)
      have := Finset.le_sup (f := fun l => lane N T (n + l)) (Finset.mem_range.2 (show k - n < c by omega))
      rwa [show n + (k - n) = k by omega] at this
  · refine max_le (Finset.sup_mono (Finset.range_mono (by omega))) (Finset.sup_le fun l hl => ?_)
    have hl := Finset.mem_range.1 hl
    exact Finset.le_sup (f := lane N T) (Finset.mem_range.2 (show n + l < n + c by omega))

/-- One block: the sum, rescaled to the new maximum. -/
theorem mass_step (hT : ∀ k, T k < ⊤) (n c : ℕ) :
    mass N T (n + c) (top N T (n + c)) = mass N T n (top N T n) * Ideal.exp (top N T n - top N T (n + c))
      + ∑ l ∈ Finset.range c, Ideal.exp (lane N T (n + l) - top N T (n + c)) := by
  have hsplit : mass N T (n + c) (top N T (n + c)) = mass N T n (top N T (n + c))
      + ∑ l ∈ Finset.range c, Ideal.exp (lane N T (n + l) - top N T (n + c)) := Finset.sum_range_add _ _ _
  rw [hsplit]
  congr 1
  by_cases h : top N T n = ⊥
  · rw [mass_bot h, mass_bot h, zero_mul]
  · obtain ⟨m, hm⟩ := top_real hT h
    obtain ⟨m', hm'⟩ := top_real (N := N) (n := n + c) hT fun h' =>
      h (le_bot_iff.1 ((Finset.sup_mono (Finset.range_mono (by omega))).trans_eq h'))
    rw [hm, hm', mass_eq hT, mass_eq hT, ← EReal.coe_sub, Ideal.exp_coe, ← EReal.coe_mul, Finset.sum_mul]
    exact congrArg _ (Finset.sum_congr rfl fun k _ => (weight_mul m m' k).symm)

/-- Lanes past the end change nothing. -/
theorem top_past {n : ℕ} (h : N ≤ n) : top N T n = top N T N := by
  apply le_antisymm
  · refine Finset.sup_le fun k hk => ?_
    by_cases hk' : k < N
    · exact Finset.le_sup (f := lane N T) (Finset.mem_range.2 hk')
    · rw [show lane N T k = ⊥ from if_neg hk']; exact bot_le
  · exact Finset.sup_mono (Finset.range_mono h)

theorem mass_past {n : ℕ} (h : N ≤ n) : mass N T n (top N T n) = mass N T N (top N T N) := by
  rw [top_past h]
  refine (Finset.sum_subset (Finset.range_mono h) fun k _ hk => ?_).symm
  rw [show lane N T k = ⊥ from if_neg fun hk' => hk (Finset.mem_range.2 hk'), EReal.bot_sub, Ideal.exp_bot]

/-- Subtracting the maximum and the logarithm of the sum together, or one after the other. -/
theorem sub_norm (hT : ∀ k, T k < ⊤) {k : ℕ} (hk : k < N) :
    T k - (top N T N + Ideal.log (mass N T N (top N T N))) = T k - top N T N - Ideal.log (mass N T N (top N T N)) := by
  by_cases hb : T k = ⊥
  · rw [hb, EReal.bot_sub, EReal.bot_sub, EReal.bot_sub]
  have hl : lane N T k = T k := if_pos hk
  have hle : T k ≤ top N T N := hl ▸ Finset.le_sup (f := lane N T) (Finset.mem_range.2 hk)
  obtain ⟨m, hm⟩ := top_real (N := N) (n := N) hT fun h => hb (le_bot_iff.1 (hle.trans_eq h))
  have hpos : 0 < ∑ k ∈ Finset.range N, weight N T m k := by
    refine Finset.sum_pos' (fun k _ => ?_) ⟨k, Finset.mem_range.2 hk, ?_⟩
    · unfold weight
      split
      · exact le_rfl
      · exact (Real.exp_pos _).le
    · rw [weight, if_neg (by rw [hl]; exact hb)]; exact Real.exp_pos _
  rw [hm, mass_eq hT, Ideal.log_coe, if_neg (not_le.2 hpos)]
  lift T k to ℝ using ⟨(hT k).ne, hb⟩ with r
  rw [← EReal.coe_add, ← EReal.coe_sub, ← EReal.coe_sub, ← EReal.coe_sub]
  exact congrArg _ (by ring)

end Cert.Norm
-- ==== Proof.Tile.lean ====
/-
  The projection's arithmetic over the extended reals, read lane by lane: a tile's logits, the masked tile, its maximum
  and its sum of exponentials.
-/
module

public import proofs.«01_k».proof.Proof.Body
public import proofs.«01_k».proof.Proof.Softmax
public import Idealize.ShloMosaic.PureOps.Ideal.Laws
public import Idealize.ShloMosaic.Lib.Pipeline.Value
public import Idealize.ShloMosaic.Lib.ValueIdx
public import Idealize.ShloMosaic.Lib.WordArith

@[expose] public section

noncomputable section

namespace Cert.KernelIdeal.Norm

open Cert.KernelIdeal Cert.KernelIdeal.Gen Cert.Norm
open Idealize.ShloMosaic Idealize.ShloMosaic.WordArith

theorem minus_inf : Ideal.ofBits .f32 0xFF800000#32 = ⊥ := by simp [Ideal.ofBits, Ideal.ieee]

theorem plus_inf : Ideal.ofBits .f32 0x7F800000#32 = ⊤ := by simp [Ideal.ofBits, Ideal.ieee]

/-! ## One tile as a row of lanes -/

/-- The lane numbered `l`. -/
def lix (l : Fin 49152) : S1x49152.Idx := fun a => match a with
  | ⟨0, _⟩ => ⟨0, Nat.one_pos⟩
  | ⟨1, _⟩ => ⟨l.val, l.isLt⟩

theorem lix_surj (j : S1x49152.Idx) : lix ⟨(j 1).val, (j 1).isLt⟩ = j := by
  funext a
  match a with
  | ⟨0, _⟩ => exact Fin.ext (by have := (j 0).isLt; show 0 = (j 0).val; change (j 0).val < 1 at this; omega)
  | ⟨1, _⟩ => rfl

def lanes : S1x49152.Idx ≃ Fin 49152 where
  toFun j := ⟨(j 1).val, (j 1).isLt⟩
  invFun := lix
  left_inv := lix_surj
  right_inv l := rfl

variable (v : S1x49152.Idx → EReal) (g : ℕ → EReal)

theorem sum_lanes (hv : ∀ j, v j = g (j 1).val) : ∑ j, v j = ∑ l ∈ Finset.range 49152, g l := by
  rw [Finset.sum_range, ← lanes.sum_comp (fun l : Fin 49152 => g l.val)]
  exact Finset.sum_congr rfl fun j _ => hv j

/-- A reduced vector's one word. -/
theorem read_one (M : S1.Idx → EReal) (C : EReal) (h : ∀ j, M j = C) :
    extractAt ![0, 0, 0] (shapeCast S1x1x1 M shapeCasts_S1_S1x1x1) inpos_S1x1x1_p0_0_0 = C := h _

/-- The vector unit's sum of a tile. -/
theorem reduce_sum (hv : ∀ j, v j = g (j 1).val) :
    extractAt ![0, 0, 0] (shapeCast S1x1x1 (multiReduction (F := Ideal) (φ := .f32) .add [1, 2] S1 (shapeCast S1x1x49152 v shapeCasts_S1x49152_S1x1x49152)
      0x00000000#32 reduces_S1x1x49152_S1 (.inl rfl) rfl) shapeCasts_S1_S1x1x1) inpos_S1x1x1_p0_0_0
      = ∑ l ∈ Finset.range 49152, g l := by
  rw [← sum_lanes v g hv]
  have h1 : ∀ b : Fin S1.rank, S1.size b = 1 := by decide
  have h2 := Ideal.multiReduction_add_total (φ := .f32) (shapeCast S1x1x49152 v shapeCasts_S1x49152_S1x1x49152) 0x00000000#32
    reduces_S1x1x49152_S1 h1 (.inl rfl) rfl
  have h3 := (Shape.reshapeEquiv shapeCasts_S1x49152_S1x1x49152).sum_comp v
  refine read_one _ _ fun j => ?_
  rw [← h3]
  exact h2 j

/-- The vector unit's maximum of a tile. -/
theorem reduce_max (hv : ∀ j, v j = g (j 1).val) :
    extractAt ![0, 0, 0] (shapeCast S1x1x1 (multiReduction (F := Ideal) (φ := .f32) .maximumf [1, 2] S1 (shapeCast S1x1x49152 v shapeCasts_S1x49152_S1x1x49152)
      0xFF800000#32 reduces_S1x1x49152_S1 (.inl rfl) rfl) shapeCasts_S1_S1x1x1) inpos_S1x1x1_p0_0_0
      = (Finset.range 49152).sup g := by
  have h2 := fun j => multiReduction_maximumf_eq_fold (F := Ideal) (φ := .f32) (shapeCast S1x1x49152 v shapeCasts_S1x49152_S1x1x49152) 0xFF800000#32
    reduces_S1x1x49152_S1 (.inl rfl) rfl j
  rw [show FloatOps.ofBits (F := Ideal) .f32 0xFF800000#32 = (⊥ : EReal) from minus_inf] at h2
  refine read_one _ _ fun j => ?_
  refine Eq.trans (h2 j) ?_
  apply le_antisymm
  · refine (Finset.fold_max_le _).2 ⟨bot_le, fun i _ => ?_⟩
    show v _ ≤ _
    rw [hv]
    exact Finset.le_sup (f := g) (Finset.mem_range.2 (Fin.isLt _))
  · refine Finset.sup_le fun l hl => (Finset.le_fold_max _).2 (.inr ?_)
    have hl := Finset.mem_range.1 hl
    refine ⟨(Shape.reshapeEquiv shapeCasts_S1x49152_S1x1x49152).symm (lix ⟨l, hl⟩), ?_, ?_⟩
    · refine Finset.mem_filter.2 ⟨Finset.mem_univ _, funext fun b => Fin.ext ?_⟩
      have h1 : ∀ b : Fin S1.rank, S1.size b = 1 := by decide
      have := (reduces_S1x1x49152_S1.drop ((Shape.reshapeEquiv shapeCasts_S1x49152_S1x1x49152).symm (lix ⟨l, hl⟩)) b).isLt
      exact (Nat.lt_one_iff.1 (h1 b ▸ this)).trans (Nat.lt_one_iff.1 (h1 b ▸ Fin.isLt _)).symm
    · show g l ≤ v (Shape.reshapeEquiv shapeCasts_S1x49152_S1x1x49152 ((Shape.reshapeEquiv shapeCasts_S1x49152_S1x1x49152).symm (lix ⟨l, hl⟩)))
      rw [Equiv.apply_symm_apply, hv]; exact le_rfl

/-! ## The payloads -/

variable (row : S1x128.Idx → EReal) (w : S49152x128.Idx → EReal) (b : S49152.Idx → EReal)

def rix (d : Fin 128) : S1x128.Idx := fun a => match a with
  | ⟨0, _⟩ => ⟨0, Nat.one_pos⟩
  | ⟨1, _⟩ => ⟨d.val, d.isLt⟩

def wix (j : S1x49152.Idx) (d : Fin 128) : S49152x128.Idx := fun a => match a with
  | ⟨0, _⟩ => ⟨(j 1).val, (j 1).isLt⟩
  | ⟨1, _⟩ => ⟨d.val, d.isLt⟩

def bix (j : S1x49152.Idx) : S49152.Idx := fun a => match a with
  | ⟨0, _⟩ => ⟨(j 1).val, (j 1).isLt⟩

abbrev dotT := dot_S1x128_S49152x128_S1x49152_1_1_0_0_n_n

theorem lhs_0 (j : S1x49152.Idx) (q : dotT.contr.Idx) : (dotT.lhsIdx j q 0).val = (j 0).val := by
  unfold DotDims.lhsIdx
  rw [dif_neg (show ¬(0 : Fin S1x128.rank) ∈ dotT.lhsBatch by decide), dif_pos (show (0 : Fin S1x128.rank) ∈ dotT.lhsNonContracting by decide)]
  rfl

theorem lhs_1 (j : S1x49152.Idx) (q : dotT.contr.Idx) : (dotT.lhsIdx j q 1).val = (q ⟨0, by decide⟩).val :=
  dotT.lhsIdx_val_of_single rfl j q

theorem rhs_0 (j : S1x49152.Idx) (q : dotT.contr.Idx) : (dotT.rhsIdx j q 0).val = (j 1).val := by
  unfold DotDims.rhsIdx
  rw [dif_neg (show ¬(0 : Fin S49152x128.rank) ∈ dotT.rhsBatch by decide), dif_pos (show (0 : Fin S49152x128.rank) ∈ dotT.rhsNonContracting by decide)]
  rfl

theorem rhs_1 (j : S1x49152.Idx) (q : dotT.contr.Idx) : (dotT.rhsIdx j q 1).val = (q ⟨0, by decide⟩).val :=
  dotT.rhsIdx_val_of_single rfl j q

/-- A tile's logits. -/
theorem pay4_at (j : S1x49152.Idx) :
    k0_pay4 (F := Ideal) row w b j = (∑ d : Fin 128, row (rix d) * w (wix j d)) + b (bix j) := by
  have hj : (j 0).val = 0 := by have := (j 0).isLt; change (j 0).val < 1 at this; omega
  show FloatOps.matmul (F := Ideal) (φ₁ := .f32) (φ₂ := .f32) dotT none row w (constant S1x49152 .f32 0x00000000#32) j
    + shapeCast S1x49152 b shapeCasts_S49152_S1x49152 j = _
  rw [Ideal.matmul_constant_zero_apply, ← Equiv.sum_comp (ValueIdx.contrEquiv1 dotT 128 rfl rfl).symm]
  congr 1
  · refine Finset.sum_congr rfl fun d _ => ?_
    have hk := ValueIdx.contrEquiv1_symm_val dotT 128 rfl rfl d
    have el : dotT.lhsIdx j ((ValueIdx.contrEquiv1 dotT 128 rfl rfl).symm d) = rix d := funext fun a => Fin.ext (by
      match a with
      | ⟨0, _⟩ => exact (lhs_0 _ _).trans hj
      | ⟨1, _⟩ => exact (lhs_1 _ _).trans hk)
    have er : dotT.rhsIdx j ((ValueIdx.contrEquiv1 dotT 128 rfl rfl).symm d) = wix j d := funext fun a => Fin.ext (by
      match a with
      | ⟨0, _⟩ => exact rhs_0 _ _
      | ⟨1, _⟩ => exact (rhs_1 _ _).trans hk)
    rw [el, er]
  · have e : j = fun a => match a with
      | ⟨0, _⟩ => ⟨0, Nat.one_pos⟩
      | ⟨1, _⟩ => j 1 := by
      rw [← lix_surj j]; rfl
    refine (shapeCast_addUnit_apply ![49152] b shapeCasts_S49152_S1x49152 j).trans (congrArg b (funext fun a => ?_))
    match a with
    | ⟨0, _⟩ => rfl

/-- The mask: a lane inside the row. -/
theorem mask_at {t : ℕ} (ht : t < 21) {l : ℕ} (hl : l < 49152) :
    IntOp.cmpi .slt (BitVec.ofNat 32 l) (Scalar.subi 1000000#32 (Scalar.muli (BitVec.ofNat 32 t) 49152#32))
      = if 49152 * t + l < 1000000 then 1#1 else 0#1 := by
  have hs : Scalar.subi 1000000#32 (Scalar.muli (BitVec.ofNat 32 t) 49152#32) = BitVec.ofNat 32 (1000000 - 49152 * t) := by
    interval_cases t <;> rfl
  rw [hs]
  show BitVec.ofBool ((BitVec.ofNat 32 l).slt (BitVec.ofNat 32 (1000000 - 49152 * t))) = _
  rw [BitVec.slt_eq_decide, toInt_ofNat_small l (by omega), toInt_ofNat_small _ (by omega)]
  by_cases h : 49152 * t + l < 1000000
  · rw [if_pos h, decide_eq_true (by omega)]; rfl
  · rw [if_neg h, decide_eq_false (by omega)]; rfl

variable {T : ℕ → EReal}

/-- The masked tile: lanes of the row of logits. -/
theorem pay5_at (i : grid0.Coords) (hp : ∀ j : S1x49152.Idx, 49152 * (i 0).val + (j 1).val < 1000000 →
      k0_pay4 (F := Ideal) row w b j = T (49152 * (i 0).val + (j 1).val)) (j : S1x49152.Idx) :
    k0_pay5 (F := Ideal) i row w b j = lane 1000000 T (49152 * (i 0).val + (j 1).val) := by
  have hm : cmpi .slt (iota .tc S1x49152 32 [1] iota_S1x49152_d1_w32)
      (broadcast S1x49152 (Scalar.subi 1000000#32 (Scalar.muli (BitVec.ofNat 32 (i 0).val) 49152#32))) j
      = if 49152 * (i 0).val + (j 1).val < 1000000 then 1#1 else 0#1 := by
    show IntOp.cmpi .slt (iota .tc S1x49152 32 [1] iota_S1x49152_d1_w32 j) _ = _
    rw [iota_single_apply]
    exact mask_at (i 0).isLt (j 1).isLt
  show Scalar.select (cmpi .slt (iota .tc S1x49152 32 [1] iota_S1x49152_d1_w32)
      (broadcast S1x49152 (Scalar.subi 1000000#32 (Scalar.muli (BitVec.ofNat 32 (i 0).val) 49152#32))) j)
      (k0_pay4 (F := Ideal) row w b j) (Ideal.ofBits .f32 0xFF800000#32) = _
  rw [hm, minus_inf]
  unfold lane
  by_cases h : 49152 * (i 0).val + (j 1).val < 1000000
  · rw [if_pos h, if_pos h]; exact hp j h
  · rw [if_neg h, if_neg h]; rfl

/-- A tile's maximum. -/
theorem pay6_eq (i : grid0.Coords) (hp : ∀ j : S1x49152.Idx, 49152 * (i 0).val + (j 1).val < 1000000 →
      k0_pay4 (F := Ideal) row w b j = T (49152 * (i 0).val + (j 1).val)) :
    k0_pay6 (F := Ideal) i row w b = (Finset.range 49152).sup fun l => lane 1000000 T (49152 * (i 0).val + l) := by
  have h := reduce_max (k0_pay5 (F := Ideal) i row w b) (fun l => lane 1000000 T (49152 * (i 0).val + l)) (pay5_at row w b i hp)
  unfold k0_pay6
  exact h

theorem exp_sub_at (P : S1x49152.Idx → EReal) (m : EReal) (j : S1x49152.Idx) :
    exp (F := Ideal) (φ := .f32) (subf (F := Ideal) (φ := .f32) P (broadcast S1x49152 m)) j = Ideal.exp (P j - m) := rfl

/-- A tile's terms of a sum of exponentials relative to a maximum. -/
theorem term_at (i : grid0.Coords) (hp : ∀ j : S1x49152.Idx, 49152 * (i 0).val + (j 1).val < 1000000 →
      k0_pay4 (F := Ideal) row w b j = T (49152 * (i 0).val + (j 1).val)) (m : EReal) (j : S1x49152.Idx) :
    exp (F := Ideal) (φ := .f32) (subf (F := Ideal) (φ := .f32) (k0_pay5 (F := Ideal) i row w b) (broadcast S1x49152 m)) j
      = (fun l => Ideal.exp (lane 1000000 T (49152 * (i 0).val + l) - m)) (j 1).val := by
  refine (exp_sub_at (k0_pay5 (F := Ideal) i row w b) m j).trans ?_
  rw [pay5_at row w b i hp j]

/-- The first tile's sum of exponentials. -/
theorem pay7_eq (i : grid0.Coords) (hp : ∀ j : S1x49152.Idx, 49152 * (i 0).val + (j 1).val < 1000000 →
      k0_pay4 (F := Ideal) row w b j = T (49152 * (i 0).val + (j 1).val)) :
    k0_pay7 (F := Ideal) i row w b
      = ∑ l ∈ Finset.range 49152, Ideal.exp (lane 1000000 T (49152 * (i 0).val + l) - k0_pay6 (F := Ideal) i row w b) := by
  have h := reduce_sum (exp (F := Ideal) (φ := .f32) (subf (F := Ideal) (φ := .f32) (k0_pay5 (F := Ideal) i row w b) (broadcast S1x49152 (k0_pay6 (F := Ideal) i row w b))))
    (fun l => Ideal.exp (lane 1000000 T (49152 * (i 0).val + l) - k0_pay6 (F := Ideal) i row w b)) (term_at row w b i hp (k0_pay6 (F := Ideal) i row w b))
  unfold k0_pay7
  exact h

/-- A later tile's sum of exponentials, the sum so far brought to the new maximum. -/
theorem pay2_eq (i : grid0.Coords) (hp : ∀ j : S1x49152.Idx, 49152 * (i 0).val + (j 1).val < 1000000 →
      k0_pay4 (F := Ideal) row w b j = T (49152 * (i 0).val + (j 1).val)) (x y z : EReal) :
    k0_pay2 (F := Ideal) (k0_pay5 (F := Ideal) i row w b) x y z
      = z * Ideal.exp (y - max y x)
        + ∑ l ∈ Finset.range 49152, Ideal.exp (lane 1000000 T (49152 * (i 0).val + l) - max y x) :=
  congrArg (fun u => z * Ideal.exp (y - max y x) + u) (reduce_sum (exp (F := Ideal) (φ := .f32) (subf (F := Ideal) (φ := .f32) (k0_pay5 (F := Ideal) i row w b) (broadcast S1x49152 (max y x))))
    (fun l => Ideal.exp (lane 1000000 T (49152 * (i 0).val + l) - max y x)) (term_at row w b i hp (max y x)))

end Cert.KernelIdeal.Norm
-- ==== Proof.Logits.lean ====
/-
  The row of logits: for one row of the embedding, its products with the rows of the weights and the bias.
-/
module

public import proofs.«01_k».proof.Proof.Tile

@[expose] public section

noncomputable section

namespace Cert.KernelIdeal.Norm

open Cert.KernelIdeal Cert.KernelIdeal.Gen Cert.Norm
open Idealize.ShloMosaic Idealize.ShloMosaic.WordArith

/-- Row `k`, column `d`. -/
def at2 (k : Fin 1000000) (d : Fin 128) : S1000000x128.Idx := fun a => match a with
  | ⟨0, _⟩ => ⟨k.val, k.isLt⟩
  | ⟨1, _⟩ => ⟨d.val, d.isLt⟩

/-- Entry `k`. -/
def at1 (k : Fin 1000000) : S1000000.Idx := fun a => match a with
  | ⟨0, _⟩ => ⟨k.val, k.isLt⟩

/-- The logit of row `k` at token `n`. -/
def logit (E W : S1000000x128.Idx → EReal) (B : S1000000.Idx → EReal) (n k : Fin 1000000) : EReal :=
  (∑ d : Fin 128, E (at2 n d) * W (at2 k d)) + B (at1 k)

/-- A sequence that holds the logits and stays below plus infinity. -/
structure Logits (E W : S1000000x128.Idx → EReal) (B : S1000000.Idx → EReal) (n : Fin 1000000) (T : ℕ → EReal) : Prop where
  eq : ∀ k : Fin 1000000, logit E W B n k = T k.val
  lt : ∀ k, T k < ⊤

theorem logits_exist {E W : S1000000x128.Idx → EReal} {B : S1000000.Idx → EReal} {n : Fin 1000000} (h : ∀ k, logit E W B n k < ⊤) :
    ∃ T, Logits E W B n T := by
  refine ⟨fun k => if hk : k < 1000000 then logit E W B n ⟨k, hk⟩ else ⊥, fun k => ?_, fun k => ?_⟩
  · rw [dif_pos k.isLt]
  · split
    · exact h _
    · exact bot_lt_top

/-- The comparison with plus infinity. -/
theorem below_of (a : EReal) (h : Ideal.cmp .olt a (Ideal.ofBits .f32 0x7F800000#32) = 1#1) : a < ⊤ := by
  rw [plus_inf] at h
  by_contra hn
  have : Ideal.cmp .olt a ⊤ = 0#1 := by
    simp only [Ideal.cmp]
    rw [decide_eq_false hn]; rfl
  rw [this] at h
  exact absurd h (by decide)

end Cert.KernelIdeal.Norm
-- ==== Proof.Value.lean ====
/-
  The kernel's result over the extended reals: the logits less their log-normaliser.
-/
module

public import proofs.«01_k».proof.Proof.Windows
public import proofs.«01_k».proof.Proof.Logits

@[expose] public section

noncomputable section

namespace Cert.KernelIdeal.Norm

open Cert.KernelIdeal Cert.KernelIdeal.Gen Cert.Norm
open Idealize.ShloMosaic Idealize.ShloMosaic.TcCoe Idealize.SL.Sem

/-- The log-normaliser of the logits. -/
def norm (T : ℕ → EReal) : EReal := top 1000000 T 1000000 + Ideal.log (mass 1000000 T 1000000 (top 1000000 T 1000000))

/-- The scratch pair after `t` tiles: their running maximum and their sum of exponentials. -/
def PairAt (T : ℕ → EReal) (t : ℕ) (s : S2.Idx → EReal) : Prop :=
  0 < t → s pos0 = top 1000000 T (49152 * t) ∧ s pos1 = mass 1000000 T (49152 * t) (top 1000000 T (49152 * t))

/-- A tile of logits, on the lanes inside the row. -/
def TileAt (T : ℕ → EReal) (t : ℕ) (X : S1x49152.Idx → EReal) : Prop :=
  ∀ j : S1x49152.Idx, 49152 * t + (j 1).val < 1000000 → X j = T (49152 * t + (j 1).val)

variable (T : ℕ → EReal) (row : S1x128.Idx → EReal) (w : S49152x128.Idx → EReal) (b : S49152.Idx → EReal)

/-- One point of the grid keeps the pair. -/
theorem pair_step (hlt : ∀ k, T k < ⊤) (i : grid0.Coords) (t : ℕ) (hi : (i 0).val = t) (hp : TileAt T t (k0_pay4 (F := Ideal) row w b)) (s : S2.Idx → EReal)
    (hs : PairAt T t s) : PairAt T (t + 1) (scrStep (F := Ideal) i row w b s) := by
  subst hi
  intro _
  have h6 := pay6_eq row w b i hp
  have hstep := top_step (N := 1000000) (T := T) (49152 * (i 0).val) 49152
  rw [← h6] at hstep
  rw [show 49152 * ((i 0).val + 1) = 49152 * (i 0).val + 49152 by ring]
  by_cases h0 : (i 0).val = 0
  · have e : scrStep (F := Ideal) i row w b s = pair (k0_pay6 (F := Ideal) i row w b) (k0_pay7 (F := Ideal) i row w b) := if_pos h0
    have ht : top 1000000 T (49152 * (i 0).val + 49152) = k0_pay6 (F := Ideal) i row w b := by
      rw [hstep, h0]
      exact max_eq_right bot_le
    rw [e]
    refine ⟨ht.symm, ?_⟩
    show k0_pay7 (F := Ideal) i row w b = _
    rw [pay7_eq row w b i hp, ht, mass, h0]
    simp only [Nat.mul_zero, Nat.zero_add]
  · have e : scrStep (F := Ideal) i row w b s = pair (k0_pay1 (F := Ideal) (k0_pay6 (F := Ideal) i row w b) (s pos0))
        (k0_pay2 (F := Ideal) (k0_pay5 (F := Ideal) i row w b) (k0_pay6 (F := Ideal) i row w b) (s pos0) (s pos1)) := if_neg h0
    obtain ⟨s0, s1⟩ := hs (Nat.pos_of_ne_zero h0)
    rw [← s0] at hstep
    rw [e]
    refine ⟨hstep.symm, ?_⟩
    show k0_pay2 (F := Ideal) (k0_pay5 (F := Ideal) i row w b) (k0_pay6 (F := Ideal) i row w b) (s pos0) (s pos1) = _
    rw [pay2_eq row w b i hp, mass_step hlt, ← hstep, s1, s0]

theorem pair_last (s : S2.Idx → EReal) (hs : PairAt T 21 s) : k0_pay3 (F := Ideal) (s pos0) (s pos1) = norm T := by
  obtain ⟨s0, s1⟩ := hs (by decide)
  show s pos0 + Ideal.log (s pos1) = _
  rw [s0, s1, mass_past (by decide), top_past (by decide), norm]

section Run

variable (a0 : (pcfg0 (F := Ideal)).Adm) (V : Valuation τ sig (Elt Ideal))

/-- The body's tile is a tile of the logits. -/
theorem tile_at (n : Fin 1000000) (h : a0.1 0 posT = BitVec.ofNat 32 n.val) (hx : k0_chk1 (tbl a0 posT))
    (hT : Logits (V (Proc.devRef .tc main_arg1)) (V (Proc.devRef .tc main_arg2)) (V (Proc.devRef .tc main_arg3)) n T)
    (t : Fin grid0.N) (d1 d2) :
    TileAt T t.val (k0_pay4 (F := Ideal) (tokRow (F := Ideal) (tbl a0 posT) hx (embB a0 V t)) (wB a0 V t d1) (bB a0 V t d2)) := by
  intro j hj
  rw [pay4_at, ← hT.eq ⟨_, hj⟩, logit]
  rw [bB_at a0 V t d2 (bix j) hj (at1 ⟨_, hj⟩) rfl]
  refine congrArg (fun x : EReal => x + _) (Finset.sum_congr rfl fun d _ => ?_)
  rw [tokRow_at a0 V n.isLt h hx t (rix d) (at2 n d) rfl rfl, wB_at a0 V t d1 (wix j d) hj (at2 ⟨_, hj⟩ d) rfl rfl]

theorem spec (n : Fin 1000000) (h : a0.1 0 posT = BitVec.ofNat 32 n.val) (hx : k0_chk1 (tbl a0 posT))
    (hT : Logits (V (Proc.devRef .tc main_arg1)) (V (Proc.devRef .tc main_arg2)) (V (Proc.devRef .tc main_arg3)) n T) :
    Spec (F := Ideal) a0 V hx (PairAt T) (fun t X => TileAt T t.val X) (fun C => C = fun _ => norm T) where
  init s h := absurd h (by decide)
  step t s d1 d2 hs := pair_step T _ _ _ hT.lt (grid0.coords t) t.val (coords0 t) (tile_at T a0 V n h hx hT t d1 d2) s hs
  tile t d1 d2 := tile_at T a0 V n h hx hT t d1 d2
  last s hs := funext fun _ => pair_last T s hs

end Run

/-- What the kernel writes. -/
def answer (T : ℕ → EReal) : S1x1000000.Idx → EReal := fun k => T (k 1).val - norm T

theorem good_answer (a0 : (pcfg0 (F := Ideal)).Adm) (G : S1x1000000.Idx → EReal) (C : S1x1.Idx → EReal)
    (h : Good (F := Ideal) a0 (fun t X => TileAt T t.val X) (fun C => C = fun _ => norm T) G C) : result (F := Ideal) G C = answer T := by
  obtain ⟨X, hX, rfl⟩ := h.tiles
  obtain rfl := h.norm
  funext k
  have hk : 49152 * (tileOf k).val + (laneOf k 1).val = (k 1).val := by
    show 49152 * ((k 1).val / 49152) + (k 1).val % 49152 = (k 1).val
    omega
  have hlt : (k 1).val < 1000000 := (k 1).isLt
  have := hX (tileOf k) (laneOf k) (by rw [hk]; exact hlt)
  rw [hk] at this
  show X (tileOf k) (laneOf k) - norm T = _
  rw [this]; rfl

variable (m : (ℓ : Loc nD τ sig) → Buf (Elt Ideal) ℓ) (ρ : Dev nD → PrngReg)

/-- The kernel's run at logits below plus infinity. -/
theorem run_value (n : Fin 1000000) (h : m ((core0.tc : Thread nD τ).loc main_arg0) posT = BitVec.ofNat 32 n.val)
    (hT : Logits (m ((core0.tc : Thread nD τ).loc main_arg1)) (m ((core0.tc : Thread nD τ).loc main_arg2)) (m ((core0.tc : Thread nD τ).loc main_arg3)) n T) :
    θ_run (defs (F := Ideal)) (onTc (τ := τ) (main (F := Ideal))) ⟨m, fun _ => 0, ρ⟩ (fun r => ∀ c : Dev nD,
      r.2.mem ((c.tc : Thread nD τ).loc main_v0) = answer T
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hx : k0_chk1 (tbl (adm m (ok0_of n.isLt (tables m) h) 0) posT) := by
    show k0_chk1 (m ((core0.tc : Thread nD τ).loc main_arg0) posT)
    rw [h]; exact chk1_of n.isLt
  refine (ends (adm m (ok0_of n.isLt (tables m) h)) (PairAt T) (fun t X => TileAt T t.val X) (fun C => C = fun _ => norm T) m ρ (fun _ => rfl)
    (hx := hx) (spec T (adm m (ok0_of n.isLt (tables m) h) 0) (start m) n h hx hT)).mono ?_
  intro r hr c
  obtain ⟨ha, G, C, hG, hv⟩ := hr.1 c
  exact ⟨hv.trans (good_answer T _ G C hG), ha⟩

end Cert.KernelIdeal.Norm
-- ==== Proof.Reference.lean ====
/-
  The reference's result over the extended reals at logits below plus infinity: each logit less the maximum and less the logarithm of
  the sum of exponentials.
-/
module

public import proofs.«01_k».proof.Proof.Value
public import proofs.«01_k».proof.Proof.Gen.ReferenceIdeal.Read

@[expose] public section

noncomputable section

namespace Cert.ReferenceIdeal.Norm

open Cert.ReferenceIdeal Cert.ReferenceIdeal.Gen Cert.ReferenceIdeal.Read Cert.Norm
open Cert.KernelIdeal.Norm (Logits logit at1 at2 answer minus_inf)
open Idealize.ShloMosaic Idealize.ShloMosaic.TcCoe Idealize.SL.Sem Idealize.ShloMosaic.WordArith

/-! ## The table lookup -/

abbrev rowD := gather_S1000000x128_S1x1_S1x128_1_0_n_n_0_1_1128

theorem start_row (idx : IVec S1x1 32) (n : Fin 1000000) (hi : ∀ i, idx i = BitVec.ofNat 32 n.val) (j : S1x128.Idx) :
    rowD.start j idx (0 : Fin 2) = n.val := by
  have hn := n.isLt
  unfold GatherDims.start
  rw [dif_pos (show (0 : Fin 2) ∈ rowD.startIndexMap from List.mem_singleton.mpr rfl), hi, toInt_ofNat_small n.val (by omega)]
  show min ((n.val : ℤ)).toNat (1000000 - 1) = n.val
  rw [Int.toNat_natCast]; omega

theorem start_col (idx : IVec S1x1 32) (j : S1x128.Idx) : rowD.start j idx (1 : Fin 2) = 0 := by
  unfold GatherDims.start
  rw [dif_neg (show ¬(1 : Fin 2) ∈ rowD.startIndexMap by decide)]

theorem off_row (j : S1x128.Idx) : rowD.offCoord j (0 : Fin 2) = 0 :=
  GatherDims.offCoord_eq_zero _ _ _ (fun h => ((GatherDims.mem_sKept _ _).mp h).1 (List.mem_singleton.mpr rfl))

theorem off_col (j : S1x128.Idx) : rowD.offCoord j (1 : Fin 2) = (j 1).val := by
  unfold GatherDims.offCoord
  rw [dif_pos (show (1 : Fin 2) ∈ rowD.sKept by decide)]
  rfl

theorem batch_zero (j : S1x128.Idx) (a : Fin 2) : rowD.batchCoord j a = 0 :=
  GatherDims.batchCoord_eq_zero _ _ _ List.not_mem_nil

/-- A lookup at one index in range takes that row. -/
theorem gather_row {α : Type} (x : S1000000x128.Idx → α) (idx : IVec S1x1 32) (n : Fin 1000000) (hi : ∀ i, idx i = BitVec.ofNat 32 n.val)
    (j : S1x128.Idx) : Host.gather rowD x idx j = x (at2 n ⟨(j 1).val, (j 1).isLt⟩) := by
  unfold Host.gather
  refine congrArg x (funext fun a : Fin 2 => Fin.ext ?_)
  show rowD.start j idx a + rowD.batchCoord j a + rowD.offCoord j a = _
  match a with
  | 0 =>
    refine (congrArg₂ (· + ·) (congrArg₂ (· + ·) (start_row idx n hi j) (batch_zero j 0)) (off_row j)).trans ?_
    show n.val + 0 + 0 = n.val
    omega
  | 1 =>
    refine (congrArg₂ (· + ·) (congrArg₂ (· + ·) (start_col idx j) (batch_zero j 1)) (off_col j)).trans ?_
    show 0 + 0 + (j 1).val = (j 1).val
    omega

variable (x0 : S1.Idx → BitVec 32) (E W : S1000000x128.Idx → EReal) (B : S1000000.Idx → EReal) (n : Fin 1000000)

theorem wrapped (h : ∀ i, x0 i = BitVec.ofNat 32 n.val) (i : S1x1.Idx) : val_main_call0_v5 (F := Ideal) x0 i = BitVec.ofNat 32 n.val := by
  rw [val_main_call0_v5_apply, val_main_call0_v4_apply, val_main_call0_v1_apply, val_main_call0_v0_apply, val_main_call0_c_apply, h]
  have hs : IntOp.cmpi .slt (BitVec.ofNat 32 n.val) 0#32 = 0#1 := Cert.KernelIdeal.Norm.slt_zero (by omega)
  rw [hs]; rfl

theorem inside (h : ∀ i, x0 i = BitVec.ofNat 32 n.val) (i : S1x1.Idx) : val_main_call0_v10 (F := Ideal) x0 i = 1#1 := by
  have hn := n.isLt
  rw [val_main_call0_v10_apply, val_main_call0_v7_apply, val_main_call0_v9_apply, wrapped x0 n h, val_main_call0_v6_apply,
    val_main_call0_v8_apply, val_main_call0_c_2_apply, val_main_call0_c_1_apply]
  show IntOp.andi (BitVec.ofBool ((0#32 : BitVec 32).sle (BitVec.ofNat 32 n.val))) (BitVec.ofBool ((BitVec.ofNat 32 n.val).sle 999999#32)) = 1#1
  rw [andi_ofBool, ofBool_eq_one_iff, Bool.and_eq_true, BitVec.sle_eq_decide, BitVec.sle_eq_decide, toInt_ofNat_small n.val (by omega)]
  refine ⟨decide_eq_true ?_, decide_eq_true ?_⟩
  · show (0 : ℤ) ≤ n.val; omega
  · show (n.val : ℤ) ≤ 999999; omega

theorem fold_ones {ι : Type} (s : Finset ι) : s.fold (IntOp.andi (w := 1)) 1#1 (fun _ => 1#1) = 1#1 := by
  classical
  induction s using Finset.induction_on with
  | empty => rfl
  | insert a s ha ih => rw [Finset.fold_insert ha, ih]; rfl

theorem mask_row (h : ∀ i, x0 i = BitVec.ofNat 32 n.val) (i : S1.Idx) : val_main_call0_v11 (F := Ideal) x0 i = 1#1 := by
  unfold val_main_call0_v11
  rw [show val_main_call0_v10 (F := Ideal) x0 = fun _ => 1#1 from funext (inside x0 n h),
    Host.reduce_eq_fold_single IntOp.andi _ _ reducesTo_S1x1_S1_d1 (by decide)]
  exact fold_ones _

/-- The looked-up row. -/
theorem row_at (h : ∀ i, x0 i = BitVec.ofNat 32 n.val) (j : S1x128.Idx) :
    val_main_v0 (F := Ideal) x0 E j = E (at2 n ⟨(j 1).val, (j 1).isLt⟩) := by
  rw [val_main_v0_apply, val_main_call0_v13_apply, mask_row x0 n h]
  exact gather_row E _ n (wrapped x0 n h) j

/-! ## The logits -/

theorem logit_at (h : ∀ i, x0 i = BitVec.ofNat 32 n.val) (i : S1x1000000.Idx) :
    val_main_v4 (F := Ideal) x0 E W B i = logit E W B n ⟨(i 1).val, (i 1).isLt⟩ := by
  rw [val_main_v4_apply, val_main_v2_apply, val_main_v3_apply]
  show (_ : EReal) + _ = _
  unfold logit
  have hb : idx_main_v3 i = at1 ⟨(i 1).val, (i 1).isLt⟩ := funext fun a => match a with | ⟨0, _⟩ => rfl
  rw [hb]
  refine congrArg (fun x : EReal => x + _) (Finset.sum_congr rfl fun d _ => ?_)
  have hw : idx_main_v1 (ridx_main_v2 i d) = at2 ⟨(i 1).val, (i 1).isLt⟩ d := funext fun a => match a with
    | ⟨0, _⟩ => rfl
    | ⟨1, _⟩ => rfl
  have he : at2 n ⟨(lidx_main_v2 i d 1).val, (lidx_main_v2 i d 1).isLt⟩ = at2 n d := rfl
  rw [row_at x0 E n h, val_main_v1_apply, hw, he]

variable {T : ℕ → EReal}

theorem value_at (h : ∀ i, x0 i = BitVec.ofNat 32 n.val) (hT : Logits E W B n T) (i : S1x1000000.Idx) :
    val_main_v4 (F := Ideal) x0 E W B i = T (i 1).val := by
  rw [logit_at x0 E W B n h]; exact hT.eq _

theorem lane_at {k : ℕ} (hk : k < 1000000) : lane 1000000 T k = T k := if_pos hk

theorem hostExp_at (x : EReal) : FloatOps.hostUnary (F := Ideal) (φ := .f32) .exp x = Ideal.exp x := rfl

theorem hostLog_at (x : EReal) : FloatOps.hostUnary (F := Ideal) (φ := .f32) .log x = Ideal.log x := rfl

/-! ## The maximum and the sum -/

theorem reduces1 : S1x1000000.Reduces [1] S1 := by decide

theorem max_at (h : ∀ i, x0 i = BitVec.ofNat 32 n.val) (hT : Logits E W B n T) (i : S1.Idx) :
    val_main_call1_v0 (F := Ideal) x0 E W B i = top 1000000 T 1000000 := by
  unfold val_main_call1_v0
  have hv := value_at x0 E W B n h hT
  generalize val_main_v4 (F := Ideal) x0 E W B = v at hv
  have h2 := Host.reduce_eq_fold_single (FloatOps.maximumf (F := Ideal) (φ := .f32)) v (val_main_call1_cst (F := Ideal))
    reducesTo_S1x1000000_S1_d1 reduces1 h_S_ i
  refine h2.trans ?_
  rw [val_main_call1_cst_apply, show FloatOps.ofBits (F := Ideal) .f32 0xFF800000#32 = (⊥ : EReal) from minus_inf]
  have hl : ∀ k : Fin 1000000, v (reduces1.lift i k) = T k.val := fun k => hv _
  apply le_antisymm
  · refine (Finset.fold_max_le _).2 ⟨bot_le, fun k _ => ?_⟩
    refine (hl k).trans_le ?_
    rw [← lane_at (T := T) k.isLt]
    exact Finset.le_sup (f := lane 1000000 T) (Finset.mem_range.2 k.isLt)
  · refine Finset.sup_le fun k hk => (Finset.le_fold_max _).2 (.inr ⟨⟨k, Finset.mem_range.1 hk⟩, Finset.mem_univ _, ?_⟩)
    rw [lane_at (Finset.mem_range.1 hk)]
    exact (hl ⟨k, Finset.mem_range.1 hk⟩).ge

theorem clamped (h : ∀ i, x0 i = BitVec.ofNat 32 n.val) (hT : Logits E W B n T) (i : S1x1000000.Idx) :
    val_main_call1_v5 (F := Ideal) x0 E W B i = T (i 1).val - top 1000000 T 1000000 := by
  rw [val_main_call1_v5_apply, val_main_call1_v4_apply, val_main_call1_v3_apply, val_main_call1_v2_apply, max_at x0 E W B n h hT,
    value_at x0 E W B n h hT, val_main_call1_v1_apply, val_main_call1_cst_0_apply,
    show FloatOps.ofBits (F := Ideal) .f32 0xFF800000#32 = (⊥ : EReal) from minus_inf]
  show T (i 1).val - max ⊥ (top 1000000 T 1000000) = _
  rw [max_eq_right bot_le]

theorem mass_at (h : ∀ i, x0 i = BitVec.ofNat 32 n.val) (hT : Logits E W B n T) (i : S1.Idx) :
    val_main_call1_v7 (F := Ideal) x0 E W B i = mass 1000000 T 1000000 (top 1000000 T 1000000) := by
  rw [val_main_call1_v7_apply, val_main_call1_cst_1_apply, show FloatOps.ofBits (F := Ideal) .f32 0x00000000#32 = (0 : EReal) from Ideal.ofBits_zero_f32,
    zero_add, mass, Finset.sum_range]
  refine Finset.sum_congr rfl fun k _ => ?_
  rw [val_main_call1_v6_apply, clamped x0 E W B n h hT, lane_at k.isLt]
  generalize top 1000000 T 1000000 = M
  exact hostExp_at _

/-- The reference's result. -/
theorem answer_eq (h : ∀ i, x0 i = BitVec.ofNat 32 n.val) (hT : Logits E W B n T) : val_main_v5 (F := Ideal) x0 E W B = answer T := by
  funext i
  rw [val_main_v5_apply, clamped x0 E W B n h hT, val_main_call1_v10_apply, val_main_call1_v9_apply, val_main_call1_v8_apply,
    mass_at x0 E W B n h hT]
  have hs := sub_norm (N := 1000000) hT.lt (show (i 1).val < 1000000 from (i 1).isLt)
  unfold answer Cert.KernelIdeal.Norm.norm
  rw [hs]
  generalize mass 1000000 T 1000000 (top 1000000 T 1000000) = S
  generalize top 1000000 T 1000000 = M
  exact congrArg (fun x : EReal => T (i 1).val - M - x) (hostLog_at S)

end Cert.ReferenceIdeal.Norm
-- ==== Proof.Frame.lean ====
/-
  The programs run: the printed kernel and its copy over the reals from every memory whose token is in range, the
  reference from every memory.
-/
module

public import proofs.«01_k».proof.Proof.Token
public import proofs.«01_k».proof.Proof.Bits.Token
public import proofs.«01_k».proof.Proof.Gen.ReferenceIdeal.Run
public import proofs.«01_k».proof.Defs

@[expose] public section

noncomputable section

namespace Cert.Norm

open Idealize.ShloMosaic Idealize.ShloMosaic.TcCoe Idealize.SL.Sem

theorem kernel_runs : Cert.quiescent_Kernel := fun m g h => Cert.Kernel.Norm.frame_of (F := Bits) m g h

theorem ideal_runs : Cert.quiescent_KernelIdeal := fun m g h => Cert.KernelIdeal.Norm.frame_of (F := Ideal) m g h

theorem reference_runs : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Norm
-- ==== Proof.Agree.lean ====
/-
  The kernel and the reference agree over the extended reals where no logit is plus infinity; and their runs under that precondition.
-/
module

public import proofs.«01_k».proof.Proof.Reference
public import proofs.«01_k».proof.Proof.Frame
public import proofs.«01_k».proof.Proof.Gen.Pre_logits_below_infinity

@[expose] public section

noncomputable section

namespace Cert.Norm

open Idealize.ShloMosaic Idealize.ShloMosaic.TcCoe Idealize.SL.Sem
open Cert.KernelIdeal.Norm (core0 core_unique)

/-- The one index of a one-entry table. -/
theorem every_index (x : Cert.KernelIdeal.S1.Idx → BitVec 32) {v : BitVec 32} (h : x Cert.KernelIdeal.Norm.posT = v) (i : Cert.KernelIdeal.S1.Idx) :
    x i = v := by
  have e : i = Cert.KernelIdeal.Norm.posT := funext fun a : Fin 1 => Fin.ext (by
    have h1 : ∀ a : Fin 1, Cert.KernelIdeal.S1.size a = 1 := by decide
    have h2 := (i a).isLt
    have h3 := (Cert.KernelIdeal.Norm.posT a).isLt
    have := h1 a
    omega)
  rw [e]; exact h

/-- The precondition, read: the token is a row number, and no logit is plus infinity. -/
theorem below_infinity (x : IVec Cert.KernelIdeal.S1 32) (e w : FVec Ideal Cert.KernelIdeal.S1000000x128 .f32) (b : FVec Ideal Cert.KernelIdeal.S1000000 .f32)
    (h : (Cert.Pre_logits_below_infinity.fn (F := Ideal) x e w b).1 = (fun _ => 1#1)
      ∧ (Cert.Pre_logits_below_infinity.fn (F := Ideal) x e w b).2 = (fun _ => 1#1)) :
    ∃ n : Fin 1000000, x Cert.KernelIdeal.Norm.posT = BitVec.ofNat 32 n.val ∧ ∀ k, Cert.KernelIdeal.Norm.logit e w b n k < ⊤ := by
  obtain ⟨n, hn, hx⟩ := Cert.KernelIdeal.Norm.token_of (F := Ideal) x e w b h.1
  refine ⟨⟨n, hn⟩, hx, fun k => ?_⟩
  have hk := congrFun h.2 (fun a => match a with
    | ⟨0, _⟩ => ⟨0, Nat.one_pos⟩
    | ⟨1, _⟩ => ⟨k.val, k.isLt⟩)
  have hv := Cert.KernelIdeal.Norm.below_of (Cert.ReferenceIdeal.Read.val_main_v4 (F := Ideal) x e w b _) hk
  rw [Cert.ReferenceIdeal.Norm.logit_at x e w b ⟨n, hn⟩ (every_index x hx)] at hv
  exact hv

theorem ideal_runs_below : Cert.quiescent_KernelIdeal_pre_logits_below_infinity := fun m g h => by
  obtain ⟨n, hx, -⟩ := below_infinity _ _ _ _ (h core0)
  exact Cert.KernelIdeal.Norm.runs (F := Ideal) m g n.isLt hx

theorem reference_runs_below : Cert.quiescent_ReferenceIdeal_pre_logits_below_infinity := fun m g _ =>
  (θ_run Cert.ReferenceIdeal.defs _ _).mono (fun r h => ⟨fun c => (h c).2, sem_eq_zero_of_no_sems (by decide) r.2⟩)
    (Cert.ReferenceIdeal.Value.run (F := Ideal) m g)

theorem agree : Cert.algebraic_KernelIdeal_ReferenceIdeal_pre_logits_below_infinity := fun m g m' g' hpre hm => by
  obtain ⟨n, hx, hl⟩ := below_infinity _ _ _ _ (hpre core0)
  obtain ⟨T, hT⟩ := Cert.KernelIdeal.Norm.logits_exist hl
  refine ⟨fun _ => Cert.KernelIdeal.Norm.answer T, Cert.KernelIdeal.Norm.run_value T m g n hx hT, ?_⟩
  refine (θ_run Cert.ReferenceIdeal.defs _ _).mono (fun r h c => ?_) (Cert.ReferenceIdeal.Value.run (F := Ideal) m' g')
  refine ⟨(h c).1.trans ((Cert.ReferenceIdeal.Read.val_main_v5_eq m' c).trans ?_), (h c).2⟩
  obtain ⟨h0, h1, h2, h3⟩ := hm c
  rw [h0, h1, h2, h3]
  obtain rfl : c = core0 := core_unique c
  exact Cert.ReferenceIdeal.Norm.answer_eq _ _ _ _ n (every_index _ hx) hT

end Cert.Norm
-- ==== Proof.lean ====
module

public import proofs.«01_k».proof.Defs
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.Pre_token_in_table
public import proofs.«01_k».proof.Proof.Gen.Pre_logits_below_infinity

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_token_in_table.Gen.facts,
    Cert.Pre_logits_below_infinity.Gen.facts,
    Cert.Norm.kernel_runs, Cert.Norm.ideal_runs, Cert.Norm.ideal_runs_below, Cert.Norm.reference_runs, Cert.Norm.reference_runs_below,
    trivial, Cert.Norm.agree⟩

end Cert.Proof

end
